-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x512 : Shape := ⟨2, ![512, 512]⟩
abbrev S2x128x64x64 : Shape := ⟨4, ![2, 128, 64, 64]⟩
abbrev S_ : Shape := ⟨0, ![]⟩
abbrev S2x128x8x64 : Shape := ⟨4, ![2, 128, 8, 64]⟩
abbrev S8x32x512 : Shape := ⟨3, ![8, 32, 512]⟩
abbrev S256x512 : Shape := ⟨2, ![256, 512]⟩
abbrev S5 : Shape := ⟨1, ![5]⟩
abbrev S8 : Shape := ⟨1, ![8]⟩
abbrev S1 : Shape := ⟨1, ![1]⟩
abbrev S128x64 : Shape := ⟨2, ![128, 64]⟩
abbrev S1x128x64 : Shape := ⟨3, ![1, 128, 64]⟩
abbrev S128x128 : Shape := ⟨2, ![128, 128]⟩
abbrev S128 : Shape := ⟨1, ![128]⟩
abbrev S128x1 : Shape := ⟨2, ![128, 1]⟩
abbrev S128x512 : Shape := ⟨2, ![128, 512]⟩
abbrev S32x512 : Shape := ⟨2, ![32, 512]⟩
abbrev S1x32x512 : Shape := ⟨3, ![1, 32, 512]⟩

abbrev nBuf : Space → Nat
  | .hbm => 34
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S2x128x64x64, .f32⟩
  | .hbm, ⟨4, _⟩ => ⟨S2x128x64x64, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x8x64, .f32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S2x128x8x64, .f32⟩
  | .hbm, ⟨31, _⟩ => ⟨S2x128x512, .f32⟩
  | .hbm, ⟨32, _⟩ => ⟨S2x128x512, .f32⟩
  | .hbm, ⟨33, _⟩ => ⟨S2x128x512, .f32⟩
  | .local _ .vmem, ⟨0, _⟩ => ⟨S2x128x512, .f32⟩
  | .local _ .vmem, ⟨1, _⟩ => ⟨S2x128x512, .f32⟩
  | .local _ .vmem, ⟨2, _⟩ => ⟨S512x512, .f32⟩
  | .local _ .vmem, ⟨3, _⟩ => ⟨S512x512, .f32⟩
  | .local _ .vmem, ⟨4, _⟩ => ⟨S2x128x512, .f32⟩
  | .local _ .vmem, ⟨5, _⟩ => ⟨S2x128x512, .f32⟩
  | .local _ .vmem, ⟨6, _⟩ => ⟨S8x32x512, .f32⟩
  | .local _ .vmem, ⟨7, _⟩ => ⟨S8x32x512, .f32⟩
  | .local _ .vmem, ⟨8, _⟩ => ⟨S256x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_v12 : Ref sig .tc := ⟨.hbm, 26, rfl⟩
abbrev main_c_9 : Ref sig .tc := ⟨.hbm, 27, rfl⟩
abbrev main_c_10 : Ref sig .tc := ⟨.hbm, 28, rfl⟩
abbrev main_c_11 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v14 : BitVec 32 := Scalar.addi v2 c1_i32_1
  let c8_i32_2 : BitVec 32 := 8#32
  let v15 : BitVec 32 := Scalar.remsi v14 c8_i32_2
  let c1_i32_4 : BitVec 32 := 1#32
  let v16 : BitVec 32 := Scalar.muli v15 c1_i32_4
  let v17 : BitVec 32 := Scalar.addi c0_i32_5 v16
  v17.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_6 : BitVec 32 := 2#32
  let v18 : BitVec 32 := Scalar.addi v2 c2_i32_6
  let c8_i32_7 : BitVec 32 := 8#32
  let v19 : BitVec 32 := Scalar.remsi v18 c8_i32_7
  let c1_i32_9 : BitVec 32 := 1#32
  let v20 : BitVec 32 := Scalar.muli v19 c1_i32_9
  let v21 : BitVec 32 := Scalar.addi c0_i32_10 v20
  v21.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_11 : BitVec 32 := 3#32
  let v22 : BitVec 32 := Scalar.addi v2 c3_i32_11
  let c8_i32_12 : BitVec 32 := 8#32
  let v23 : BitVec 32 := Scalar.remsi v22 c8_i32_12
  let c1_i32_14 : BitVec 32 := 1#32
  let v24 : BitVec 32 := Scalar.muli v23 c1_i32_14
  let v25 : BitVec 32 := Scalar.addi c0_i32_15 v24
  v25.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_16 : BitVec 32 := 4#32
  let v26 : BitVec 32 := Scalar.addi v2 c4_i32_16
  let c8_i32_17 : BitVec 32 := 8#32
  let v27 : BitVec 32 := Scalar.remsi v26 c8_i32_17
  let c1_i32_19 : BitVec 32 := 1#32
  let v28 : BitVec 32 := Scalar.muli v27 c1_i32_19
  let v29 : BitVec 32 := Scalar.addi c0_i32_20 v28
  v29.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v30 : BitVec 32 := Scalar.addi v2 c5_i32
  let c8_i32_21 : BitVec 32 := 8#32
  let v31 : BitVec 32 := Scalar.remsi v30 c8_i32_21
  let c1_i32_23 : BitVec 32 := 1#32
  let v32 : BitVec 32 := Scalar.muli v31 c1_i32_23
  let v33 : BitVec 32 := Scalar.addi c0_i32_24 v32
  v33.toNat
def k0_dev6 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v34 : BitVec 32 := Scalar.addi v2 c6_i32
  let c8_i32_25 : BitVec 32 := 8#32
  let v35 : BitVec 32 := Scalar.remsi v34 c8_i32_25
  let c1_i32_27 : BitVec 32 := 1#32
  let v36 : BitVec 32 := Scalar.muli v35 c1_i32_27
  let v37 : BitVec 32 := Scalar.addi c0_i32_28 v36
  v37.toNat
def k0_dev7 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v38 : BitVec 32 := Scalar.addi v2 c7_i32
  let c8_i32_29 : BitVec 32 := 8#32
  let v39 : BitVec 32 := Scalar.remsi v38 c8_i32_29
  let c1_i32_31 : BitVec 32 := 1#32
  let v40 : BitVec 32 := Scalar.muli v39 c1_i32_31
  let v41 : BitVec 32 := Scalar.addi c0_i32_32 v40
  v41.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32 : BitVec 32 := 32#32
  let v352 : BitVec 32 := Scalar.muli v2 c32_i32
  let v353 : Index := Scalar.indexCast v352
  let c0_216 : Index := 0#32
  ![v353.toNat, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v355 : Index := Scalar.indexCast v2
  let c0_217 : Index := 0#32
  let c0_218 : Index := 0#32
  ![v355.toNat, 0, 0]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_225 : BitVec 32 := 0#32
  let c0_i32_226 : BitVec 32 := 0#32
  ![v2.toNat, 0, 0]
def k0_off5 (d0 : Dev nD) (c1_i32_219 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v359 : BitVec 32 := Scalar.addi v2 c1_i32_219
  let c8_i32_220 : BitVec 32 := 8#32
  let v360 : BitVec 32 := Scalar.remsi v359 c8_i32_220
  let c32_i32_221 : BitVec 32 := 32#32
  let v361 : BitVec 32 := Scalar.muli v360 c32_i32_221
  let c0_i32_227 : BitVec 32 := 0#32
  ![v361.toNat, 0]
def k0_dev8 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_219 : BitVec 32 := 1#32
  let v359 : BitVec 32 := Scalar.addi v2 c1_i32_219
  let c8_i32_220 : BitVec 32 := 8#32
  let v360 : BitVec 32 := Scalar.remsi v359 c8_i32_220
  let c1_i32_223 : BitVec 32 := 1#32
  let v362 : BitVec 32 := Scalar.muli v360 c1_i32_223
  let v363 : BitVec 32 := Scalar.addi c0_i32_224 v362
  v363.toNat
def k0_dev9 (d0 : Dev nD) : Nat :=
  let c0_i32_233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_228 : BitVec 32 := 2#32
  let v371 : BitVec 32 := Scalar.addi v2 c2_i32_228
  let c8_i32_229 : BitVec 32 := 8#32
  let v372 : BitVec 32 := Scalar.remsi v371 c8_i32_229
  let c1_i32_232 : BitVec 32 := 1#32
  let v374 : BitVec 32 := Scalar.muli v372 c1_i32_232
  let v375 : BitVec 32 := Scalar.addi c0_i32_233 v374
  v375.toNat
def k0_dev10 (d0 : Dev nD) : Nat :=
  let c0_i32_242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_237 : BitVec 32 := 3#32
  let v383 : BitVec 32 := Scalar.addi v2 c3_i32_237
  let c8_i32_238 : BitVec 32 := 8#32
  let v384 : BitVec 32 := Scalar.remsi v383 c8_i32_238
  let c1_i32_241 : BitVec 32 := 1#32
  let v386 : BitVec 32 := Scalar.muli v384 c1_i32_241
  let v387 : BitVec 32 := Scalar.addi c0_i32_242 v386
  v387.toNat
def k0_dev11 (d0 : Dev nD) : Nat :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_246 : BitVec 32 := 4#32
  let v395 : BitVec 32 := Scalar.addi v2 c4_i32_246
  let c8_i32_247 : BitVec 32 := 8#32
  let v396 : BitVec 32 := Scalar.remsi v395 c8_i32_247
  let c1_i32_250 : BitVec 32 := 1#32
  let v398 : BitVec 32 := Scalar.muli v396 c1_i32_250
  let v399 : BitVec 32 := Scalar.addi c0_i32_251 v398
  v399.toNat
def k0_dev12 (d0 : Dev nD) : Nat :=
  let c0_i32_260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_255 : BitVec 32 := 5#32
  let v407 : BitVec 32 := Scalar.addi v2 c5_i32_255
  let c8_i32_256 : BitVec 32 := 8#32
  let v408 : BitVec 32 := Scalar.remsi v407 c8_i32_256
  let c1_i32_259 : BitVec 32 := 1#32
  let v410 : BitVec 32 := Scalar.muli v408 c1_i32_259
  let v411 : BitVec 32 := Scalar.addi c0_i32_260 v410
  v411.toNat
def k0_dev13 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_264 : BitVec 32 := 6#32
  let v419 : BitVec 32 := Scalar.addi v2 c6_i32_264
  let c8_i32_265 : BitVec 32 := 8#32
  let v420 : BitVec 32 := Scalar.remsi v419 c8_i32_265
  let c1_i32_268 : BitVec 32 := 1#32
  let v422 : BitVec 32 := Scalar.muli v420 c1_i32_268
  let v423 : BitVec 32 := Scalar.addi c0_i32_269 v422
  v423.toNat
def k0_dev14 (d0 : Dev nD) : Nat :=
  let c0_i32_278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_273 : BitVec 32 := 7#32
  let v431 : BitVec 32 := Scalar.addi v2 c7_i32_273
  let c8_i32_274 : BitVec 32 := 8#32
  let v432 : BitVec 32 := Scalar.remsi v431 c8_i32_274
  let c1_i32_277 : BitVec 32 := 1#32
  let v434 : BitVec 32 := Scalar.muli v432 c1_i32_277
  let v435 : BitVec 32 := Scalar.addi c0_i32_278 v434
  v435.toNat
def k0_off6 (d0 : Dev nD) (c1_i32_282 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v443 : BitVec 32 := Scalar.addi v2 c1_i32_282
  let c8_i32_283 : BitVec 32 := 8#32
  let v444 : BitVec 32 := Scalar.remsi v443 c8_i32_283
  ![v444.toNat]
def k0_off7 (d0 : Dev nD) (c1_i32_282 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v443 : BitVec 32 := Scalar.addi v2 c1_i32_282
  let c8_i32_283 : BitVec 32 := 8#32
  let v444 : BitVec 32 := Scalar.remsi v443 c8_i32_283
  let c0_i32_287 : BitVec 32 := 0#32
  let c0_i32_288 : BitVec 32 := 0#32
  ![v444.toNat, 0, 0]
def k0_dev15 (d0 : Dev nD) : Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_351 : BitVec 32 := 1#32
  let v512 : BitVec 32 := Scalar.addi v2 c1_i32_351
  let c8_i32_352 : BitVec 32 := 8#32
  let v513 : BitVec 32 := Scalar.remsi v512 c8_i32_352
  let c1_i32_354 : BitVec 32 := 1#32
  let v514 : BitVec 32 := Scalar.muli v513 c1_i32_354
  let v515 : BitVec 32 := Scalar.addi c0_i32_355 v514
  v515.toNat
def k0_dev16 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_360 : BitVec 32 := 2#32
  let v524 : BitVec 32 := Scalar.addi v2 c2_i32_360
  let c8_i32_361 : BitVec 32 := 8#32
  let v525 : BitVec 32 := Scalar.remsi v524 c8_i32_361
  let c1_i32_363 : BitVec 32 := 1#32
  let v526 : BitVec 32 := Scalar.muli v525 c1_i32_363
  let v527 : BitVec 32 := Scalar.addi c0_i32_364 v526
  v527.toNat
def k0_dev17 (d0 : Dev nD) : Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_369 : BitVec 32 := 3#32
  let v536 : BitVec 32 := Scalar.addi v2 c3_i32_369
  let c8_i32_370 : BitVec 32 := 8#32
  let v537 : BitVec 32 := Scalar.remsi v536 c8_i32_370
  let c1_i32_372 : BitVec 32 := 1#32
  let v538 : BitVec 32 := Scalar.muli v537 c1_i32_372
  let v539 : BitVec 32 := Scalar.addi c0_i32_373 v538
  v539.toNat
def k0_dev18 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_378 : BitVec 32 := 4#32
  let v548 : BitVec 32 := Scalar.addi v2 c4_i32_378
  let c8_i32_379 : BitVec 32 := 8#32
  let v549 : BitVec 32 := Scalar.remsi v548 c8_i32_379
  let c1_i32_381 : BitVec 32 := 1#32
  let v550 : BitVec 32 := Scalar.muli v549 c1_i32_381
  let v551 : BitVec 32 := Scalar.addi c0_i32_382 v550
  v551.toNat
def k0_dev19 (d0 : Dev nD) : Nat :=
  let c0_i32_391 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_387 : BitVec 32 := 5#32
  let v560 : BitVec 32 := Scalar.addi v2 c5_i32_387
  let c8_i32_388 : BitVec 32 := 8#32
  let v561 : BitVec 32 := Scalar.remsi v560 c8_i32_388
  let c1_i32_390 : BitVec 32 := 1#32
  let v562 : BitVec 32 := Scalar.muli v561 c1_i32_390
  let v563 : BitVec 32 := Scalar.addi c0_i32_391 v562
  v563.toNat
def k0_dev20 (d0 : Dev nD) : Nat :=
  let c0_i32_400 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_396 : BitVec 32 := 6#32
  let v572 : BitVec 32 := Scalar.addi v2 c6_i32_396
  let c8_i32_397 : BitVec 32 := 8#32
  let v573 : BitVec 32 := Scalar.remsi v572 c8_i32_397
  let c1_i32_399 : BitVec 32 := 1#32
  let v574 : BitVec 32 := Scalar.muli v573 c1_i32_399
  let v575 : BitVec 32 := Scalar.addi c0_i32_400 v574
  v575.toNat
def k0_dev21 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_405 : BitVec 32 := 7#32
  let v584 : BitVec 32 := Scalar.addi v2 c7_i32_405
  let c8_i32_406 : BitVec 32 := 8#32
  let v585 : BitVec 32 := Scalar.remsi v584 c8_i32_406
  let c1_i32_408 : BitVec 32 := 1#32
  let v586 : BitVec 32 := Scalar.muli v585 c1_i32_408
  let v587 : BitVec 32 := Scalar.addi c0_i32_409 v586
  v587.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x128x512 : Shape := ⟨3, ![2, 128, 512]⟩
abbrev S512x4096 : Shape := ⟨2, ![512, 4096]⟩
abbrev S4096x512 : Shape := ⟨2, ![4096, 512]⟩
abbrev S2x128x64x64 : Shape := ⟨4, ![2, 128, 64, 64]⟩
abbrev S256x512 : Shape := ⟨2, ![256, 512]⟩
abbrev S256x4096 : Shape := ⟨2, ![256, 4096]⟩
abbrev S2x64x128x128 : Shape := ⟨4, ![2, 64, 128, 128]⟩
abbrev S_ : Shape := ⟨0, ![]⟩
abbrev S2x64x128 : Shape := ⟨3, ![2, 64, 128]⟩
abbrev S2x64x128x1 : Shape := ⟨4, ![2, 64, 128, 1]⟩
abbrev S2x64x64x128 : Shape := ⟨4, ![2, 64, 64, 128]⟩

abbrev nBuf : Space → Nat
  | .hbm => 28
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x4096, .f32⟩
  | .hbm, ⟨2, _⟩ => ⟨S4096x512, .f32⟩
  | .hbm, ⟨3, _⟩ => ⟨S2x128x64x64, .f32⟩
  | .hbm, ⟨4, _⟩ => ⟨S2x128x64x64, .f32⟩
  | .hbm, ⟨5, _⟩ => ⟨S256x512, .f32⟩
  | .hbm, ⟨6, _⟩ => ⟨S256x4096, .f32⟩
  | .hbm, ⟨7, _⟩ => ⟨S2x128x64x64, .f32⟩
  | .hbm, ⟨8, _⟩ => ⟨S2x64x128x128, .f32⟩
  | .hbm, ⟨9, _⟩ => ⟨S_, .f32⟩
  | .hbm, ⟨10, _⟩ => ⟨S2x64x128x128, .f32⟩
  | .hbm, ⟨11, _⟩ => ⟨S2x64x128x128, .f32⟩
  | .hbm, ⟨12, _⟩ => ⟨S_, .f32⟩
  | .hbm, ⟨13, _⟩ => ⟨S2x64x128, .f32⟩
  | .hbm, ⟨14, _⟩ => ⟨S2x64x128x1, .f32⟩
  | .hbm, ⟨15, _⟩ => ⟨S2x64x128x128, .f32⟩
  | .hbm, ⟨16, _⟩ => ⟨S2x64x128x128, .f32⟩
  | .hbm, ⟨17, _⟩ => ⟨S2x64x128x128, .f32⟩
  | .hbm, ⟨18, _⟩ => ⟨S_, .f32⟩
  | .hbm, ⟨19, _⟩ => ⟨S2x64x128, .f32⟩
  | .hbm, ⟨20, _⟩ => ⟨S2x64x128x1, .f32⟩
  | .hbm, ⟨21, _⟩ => ⟨S2x64x128x128, .f32⟩
  | .hbm, ⟨22, _⟩ => ⟨S2x64x128x128, .f32⟩
  | .hbm, ⟨23, _⟩ => ⟨S2x64x64x128, .f32⟩
  | .hbm, ⟨24, _⟩ => ⟨S2x128x64x64, .f32⟩
  | .hbm, ⟨25, _⟩ => ⟨S256x4096, .f32⟩
  | .hbm, ⟨26, _⟩ => ⟨S256x512, .f32⟩
  | .hbm, ⟨27, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.KernelIdeal.Proto.lean ====
/-
# The protocol of the attention kernel: peers, cells, contents, schedule, dues and levels

Eight devices. Each stages its operands by five local copies, meets the other seven at the barrier, computes its
partial product, scatters the seven chunks that belong to the others (reduce-scatter), adds up the eight chunks it
holds, and sends the sum to the other seven (all-gather). `k : Fin 7` names the `k`-th other device
`(c + k + 1) mod 8`; seen from there, `c` is the other device of index `Fin.rev k`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline library's rounds beside the kernel's own, whose cells take up to seven payments a round. -/
abbrev UU : Type := UR sig nD τ × URounds (GSem nD τ sig) (Fin 7)

local notation "𝕄" => MT nD τ sig Unit (Elt F) ℕ UU ℕ

abbrev EP : Emb (UR sig nD τ) (MT nD τ sig Unit (Elt F) ℕ UU ℕ) := embL
abbrev ER : Emb (URounds (GSem nD τ sig) (Fin 7)) (MT nD τ sig Unit (Elt F) ℕ UU ℕ) := embR

/-! ## Peers -/

/-- The `k`-th other device. -/
def peer (c : Dev nD) (k : Fin 7) : Dev nD := ⟨(c.val + k.val + 1) % 8, Nat.mod_lt _ (by decide)⟩

theorem peer_rev (c : Dev nD) (k : Fin 7) : peer (peer c k) k.rev = c := by revert c k; decide
theorem peer_rev' (c : Dev nD) (k : Fin 7) : peer (peer c k.rev) k = c := by revert c k; decide
theorem peer_ne (c : Dev nD) (k : Fin 7) : peer c k ≠ c := by revert c k; decide
theorem peer_inj (c : Dev nD) : Function.Injective (peer c) := by revert c; decide
theorem eq_or_peer (c d : Dev nD) : d = c ∨ ∃ k, d = peer c k := by revert c d; decide

/-- Going to the `k`-th other device is a rearrangement of the devices. -/
def peerEquiv (k : Fin 7) : Dev nD ≃ Dev nD := ⟨fun c => peer c k, fun c => peer c k.rev, fun c => peer_rev c k, fun c => peer_rev' c k⟩

/-! ## The slots the copies move -/

abbrev xM : Memref sig .tc .vmem S2x128x512 .f32 := Memref.whole cc0_scratch0
abbrev wqM : Memref sig .tc .vmem S512x512 .f32 := Memref.whole cc0_scratch1
abbrev woM : Memref sig .tc .vmem S512x512 .f32 := Memref.whole cc0_scratch2
abbrev kM : Memref sig .tc .vmem S2x128x512 .f32 := Memref.whole cc0_scratch3
abbrev vM : Memref sig .tc .vmem S2x128x512 .f32 := Memref.whole cc0_scratch4
abbrev rsM : Memref sig .tc .vmem S8x32x512 .f32 := Memref.whole cc0_scratch5
abbrev agM : Memref sig .tc .vmem S8x32x512 .f32 := Memref.whole cc0_scratch6
abbrev sdM : Memref sig .tc .vmem S256x512 .f32 := Memref.whole cc0_scratch7
abbrev outM : Memref sig .tc .vmem S2x128x512 .f32 := Memref.whole cc0_stg0_0

/-- Slot `s` of a buffer of eight chunks, as the copies name it. -/
abbrev slot (M : Memref sig .tc .vmem S8x32x512 .f32) (s : Dev nD) : Memref sig .tc .vmem S32x512 .f32 :=
  (M.slice (Rect.unit (s := S8x32x512) (k0_off4 s) S1x32x512.size (k0_off4_inb s)) (fun _ => rfl)).squeeze S32x512 squeezes_S1x32x512_S32x512

/-- The rows of the partial product that belong to device `s`. -/
abbrev chunk (s : Dev nD) : Memref sig .tc .vmem S32x512 .f32 :=
  sdM.slice (Rect.unit (s := S256x512) (k0_off1 s) S32x512.size (k0_off1_inb s)) (fun _ => rfl)

/-- What one chunk's copy credits. -/
abbrev N : ℕ := (chunk 0).view.dmaCredit
theorem N_pos : 0 < N := View.dmaCredit_pos _ (by decide)

/-! ## Contents -/

section Contents

/-- Head `h` of batch `b` of the staged keys (or values): 128 rows of 64 numbers. -/
def slab (f : Vec F S2x128x512 .f32) (b : Fin 2) (h : Fin 8) : Vec F S1x128x64 .f32 := fun i =>
  f fun a => match a with
    | 0 => (b : Fin 2)
    | 1 => (⟨(i 1).val, (i 1).isLt⟩ : Fin 128)
    | 2 => (⟨64 * h.val + (i 2).val, by have := h.isLt; have : (i 2).val < 64 := (i 2).isLt; omega⟩ : Fin 512)

/-- One device's partial product, from its staged operands. -/
def partialOf (x : Vec F S2x128x512 .f32) (wq : Vec F S512x512 .f32) (wo : Vec F S512x512 .f32) (k v : Fin 2 → Fin 8 → Vec F S1x128x64 .f32) :
    Vec F S256x512 .f32 :=
  let q := k0_pay1 x wq
  k0_pay26 (k0_pay25 q
    (k0_pay13 q (k0_pay2 q (k 0 0) (v 0 0)) (k0_pay6 (k0_pay3 (v 0 1)) (k0_pay4 q (k 0 1)) (k0_pay5 q (k 0 1)))
      (k0_pay7 q (k 0 2) (v 0 2)) (k0_pay10 (k0_pay8 (v 0 3)) (k0_pay9 q (k 0 3)))
      (k0_pay11 q (k 0 4) (v 0 4)) (k0_pay12 q (k 0 5) (v 0 5)) (k 0 6) (v 0 6) (k 0 7) (v 0 7))
    (k0_pay15 (k0_pay14 q) (k 1 0) (v 1 0)) (k0_pay16 q (k 1 1) (v 1 1)) (k0_pay18 (k0_pay17 q) (k 1 2) (v 1 2)) (k0_pay19 q (k 1 3) (v 1 3))
    (k0_pay21 (k0_pay20 q) (k 1 4) (v 1 4)) (k0_pay22 q (k 1 5) (v 1 5)) (k0_pay23 q) (k0_pay24 (k 1 6)) (v 1 6) (k 1 7) (v 1 7)) wo

variable (V : Dev nD → Valuation τ sig (Elt F))

/-- Device `c`'s partial product, from the buffers at region entry. -/
def Sbuf (c : Dev nD) : Vec F S256x512 .f32 :=
  partialOf (V c main_arg0) (V c main_arg1) (V c main_arg2) (slab (V c main_v14)) (slab (V c main_v15))

/-- Device `c`'s eight received chunks: slot `s` holds rows `32 c ..` of device `s`'s partial product. -/
def Rbuf (c : Dev nD) : Vec F S8x32x512 .f32 := fun i =>
  Sbuf V (i 0 : Fin 8) fun a => match a with
    | 0 => (⟨32 * c.val + (i 1).val, by have : c.val < 8 := c.isLt; have : (i 1).val < 32 := (i 1).isLt; omega⟩ : Fin 256)
    | 1 => (⟨(i 2).val, (i 2).isLt⟩ : Fin 512)

/-- The gathered sums: slot `s` holds the sum device `s` made of its eight chunks. -/
def Abuf : Vec F S8x32x512 .f32 := fun i =>
  k0_pay28 (Rbuf V (i 0 : Fin 8)) fun a => match a with
    | 0 => (0 : Fin 1)
    | 1 => (⟨(i 1).val, (i 1).isLt⟩ : Fin 32)
    | 2 => (⟨(i 2).val, (i 2).isLt⟩ : Fin 512)

/-- What every device returns. -/
def Out : Vec F S2x128x512 .f32 := k0_pay29 (Abuf V)

end Contents

/-! ## What a landed chunk is -/

section Landing

variable (V : Dev nD → Valuation τ sig (Elt F))

/-- Where a slot's element sits in its buffer. -/
theorem slot_emb (b : Dev nD) (j : S32x512.Idx) (a : Fin 3) :
    ((slot rsM b).view.emb j a : ℕ) = (![b.val, (j 0).val, (j 1).val] : Fin 3 → ℕ) a := by
  have h : (slot rsM b).view.emb j = (Rect.unit (s := S8x32x512) (k0_off4 b) S1x32x512.size (k0_off4_inb b)).emb
      (Shape.reshapeEquiv squeezes_S1x32x512_S32x512.numel_eq j) := rfl
  rw [h, Shape.reshapeEquiv_cons_one]
  refine (congrArg₂ (· + ·) (congrFun (k0_off4_eq b) a) (Nat.one_mul _)).trans ?_
  fin_cases a
  · rfl
  · exact Nat.zero_add _
  · exact Nat.zero_add _

/-- Where a chunk's element sits in the partial product. -/
theorem chunk_emb (b : Dev nD) (j : S32x512.Idx) (a : Fin 2) :
    ((chunk b).view.emb j a : ℕ) = (![32 * b.val + (j 0).val, (j 1).val] : Fin 2 → ℕ) a := by
  refine (congrArg₂ (· + ·) (congrFun (k0_off1_eq b) a) (Nat.one_mul _)).trans ?_
  fin_cases a
  · rfl
  · exact Nat.zero_add _

/-- Device `c`'s rows of device `s`'s partial product, landed in slot `s`, are what `Rbuf` says. -/
theorem landed_rs (c s : Dev nD) (fd : Buf (Elt F) ((slot rsM s).view.loc (c : Thread nD τ))) :
    ∀ i ∈ (slot rsM s).view.set,
      ((slot rsM s).view.write (Elt F) fd ((chunk c).view.read (Elt F) (Sbuf V s)) Finset.univ) i = Rbuf V c i := by
  intro i hi
  obtain ⟨j, -, rfl⟩ := Finset.mem_map.mp hi
  rw [View.write_emb_of_mem _ _ (Finset.mem_univ j)]
  show Sbuf V s ((chunk c).view.emb j) = Rbuf V c ((slot rsM s).view.emb j)
  have h0 : ((slot rsM s).view.emb j 0 : ℕ) = s.val := slot_emb s j 0
  have h1 : ((slot rsM s).view.emb j 1 : ℕ) = (j 0).val := slot_emb s j 1
  have h2 : ((slot rsM s).view.emb j 2 : ℕ) = (j 1).val := slot_emb s j 2
  unfold Rbuf
  rw [show (((slot rsM s).view.emb j 0 : Fin 8) : Dev nD) = s from Fin.ext h0]
  congr 1
  funext a
  apply Fin.ext
  rw [chunk_emb c j a]
  fin_cases a
  · show 32 * c.val + (j 0).val = 32 * c.val + _
    rw [h1]
  · exact h2.symm

/-- A slot of the gathered sums, landed in the same slot of another device. -/
theorem landed_ag (c s : Dev nD) (fd : Buf (Elt F) ((slot agM s).view.loc (c : Thread nD τ))) :
    ∀ i ∈ (slot agM s).view.set,
      ((slot agM s).view.write (Elt F) fd ((slot agM s).view.read (Elt F) (Abuf V)) Finset.univ) i = Abuf V i := by
  intro i hi
  obtain ⟨j, -, rfl⟩ := Finset.mem_map.mp hi
  rw [View.write_emb_of_mem _ _ (Finset.mem_univ j)]
  rfl

end Landing

/-! ## Cells -/

/-- The semaphore cells a device waits on: the barrier, the five staging copies, and per other device the two ends of
    the scatter's copy and the two ends of the gather's copy. -/
inductive Kind
  | bar
  | cp (i : Fin 5)
  | rsS (k : Fin 7)
  | rsR (k : Fin 7)
  | agS (k : Fin 7)
  | agR (k : Fin 7)
  deriving DecidableEq

/-- All kinds. -/
instance : Fintype Kind where
  elems := insert .bar (Finset.univ.image .cp ∪ (Finset.univ.image .rsS ∪ (Finset.univ.image .rsR ∪ (Finset.univ.image .agS ∪ Finset.univ.image .agR))))
  complete κ := by cases κ <;> simp

/-- The semaphore of a kind on device `c`: a receiving cell is indexed by the sending device. -/
def semOf (c : Dev nD) : Kind → SemLoc sig
  | .bar => .reg barrier0
  | .cp i => .dma ⟨1 + i.val, by have := i.isLt; show _ < 38; omega⟩
  | .rsS k => .dma ⟨7 + k.val, by have := k.isLt; show _ < 38; omega⟩
  | .rsR k => .dma ⟨14 + (peer c k).val, by have : (peer c k).val < 8 := (peer c k).isLt; show _ < 38; omega⟩
  | .agS k => .dma ⟨23 + k.val, by have := k.isLt; show _ < 38; omega⟩
  | .agR k => .dma ⟨30 + (peer c k).val, by have : (peer c k).val < 8 := (peer c k).isLt; show _ < 38; omega⟩

abbrev cell (c : Dev nD) (κ : Kind) : GSem nD τ sig := ((c : Thread nD τ), semOf c κ)

/-- The index of another device as seen from `c`. -/
def idxOf (c s : Fin 8) : Option (Fin 7) :=
  if h : (s.val + 8 - c.val - 1) % 8 < 7 then some ⟨_, h⟩ else none

/-- The kind of a semaphore on device `c`. -/
def kindOf (c : Dev nD) : SemLoc sig → Option Kind
  | .reg _ => some .bar
  | .dma i =>
    if h : 1 ≤ i.val ∧ i.val < 6 then some (.cp ⟨i.val - 1, by omega⟩)
    else if h : 7 ≤ i.val ∧ i.val < 14 then some (.rsS ⟨i.val - 7, by omega⟩)
    else if h : 14 ≤ i.val ∧ i.val < 22 then (idxOf c ⟨i.val - 14, by omega⟩).map .rsR
    else if h : 23 ≤ i.val ∧ i.val < 30 then some (.agS ⟨i.val - 23, by omega⟩)
    else if h : 30 ≤ i.val ∧ i.val < 38 then (idxOf c ⟨i.val - 30, by omega⟩).map .agR
    else none

theorem kindOf_semOf (c : Dev nD) (κ : Kind) : kindOf c (semOf c κ) = some κ := by
  cases κ with
  | bar => rfl
  | cp i => revert c i; decide +kernel
  | _ k => revert c k; decide +kernel

theorem cell_inj {c d : Dev nD} {κ κ' : Kind} (h : cell c κ = cell d κ') : c = d ∧ κ = κ' := by
  have h1 : c = d := congrArg (fun g : GSem nD τ sig => g.1.1) h
  subst h1
  have h2 : semOf c κ = semOf c κ' := congrArg (fun g : GSem nD τ sig => g.2) h
  have h3 := kindOf_semOf c κ
  rw [h2, kindOf_semOf] at h3
  exact ⟨rfl, (Option.some.inj h3).symm⟩

/-! ## The schedule -/

/-- The points-to of a whole buffer. -/
abbrev pt (c : Dev nD) (b : Ref sig .tc) (q : PosShare TreeShare) (f : b.ty.Contents (Elt F)) : sProp 𝕄 := (c : Thread nD τ).loc b ↦{q} f

/-- The points-to of what a chunk-sized memref names on device `c`. -/
abbrev mpt {s : Shape} {e : EltTy} (c : Dev nD) (M : Memref sig .tc .vmem s e) (q : PosShare TreeShare) (f : Buf (Elt F) (M.view.loc (c : Thread nD τ))) : sProp 𝕄 :=
  M.view.loc (c : Thread nD τ) ↦[M.view.set]{q} f

/-- The share of its own sum a device keeps while the other seven copies read it. -/
abbrev kept : PosShare TreeShare := Transfers.shareDrop fullShare 7
/-- The share the copy to the `k`-th other device reads with. -/
abbrev lent (k : Fin 7) : PosShare TreeShare := Transfers.shareTok fullShare 7 k

section Schedule

variable (V : Dev nD → Valuation τ sig (Elt F))

/-- Handed over at the barrier of `c` by its `d`-th other device `p`: `p`'s two slots that `c` will fill, and that `p`'s
    two cells `c`'s copies complete on are open. -/
def barPay (c : Dev nD) (d : Fin 7) : sProp 𝕄 :=
  iprop((∃ f, mpt (peer c d) (slot rsM c) fullShare f) ∗ (∃ f, mpt (peer c d) (slot agM c) fullShare f)
    ∗ reached ER (cell (peer c d) (.rsR d.rev)) 0 ∗ reached ER (cell (peer c d) (.agR d.rev)) 0)

/-- Handed over by the `i`-th staging copy: the staged buffer at the operand's contents, and the operand back. -/
def cpPay (c : Dev nD) : Fin 5 → sProp 𝕄
  | 0 => iprop(pt c cc0_scratch0 fullShare (V c main_arg0) ∗ pt c main_arg0 fullShare (V c main_arg0))
  | 1 => iprop(pt c cc0_scratch1 fullShare (V c main_arg1) ∗ pt c main_arg1 fullShare (V c main_arg1))
  | 2 => iprop(pt c cc0_scratch2 fullShare (V c main_arg2) ∗ pt c main_arg2 fullShare (V c main_arg2))
  | 3 => iprop(pt c cc0_scratch3 fullShare (V c main_v14) ∗ pt c main_v14 fullShare (V c main_v14))
  | 4 => iprop(pt c cc0_scratch4 fullShare (V c main_v15) ∗ pt c main_v15 fullShare (V c main_v15))

/-- What a staging copy credits. -/
def cpAmt : Fin 5 → ℕ
  | 0 => xM.view.dmaCredit
  | 1 => wqM.view.dmaCredit
  | 2 => woM.view.dmaCredit
  | 3 => kM.view.dmaCredit
  | 4 => vM.view.dmaCredit

def amt : Kind → ℕ
  | .bar => 1
  | .cp i => cpAmt i
  | _ => N

theorem amt_pos (κ : Kind) : 0 < amt κ := by
  cases κ with
  | bar => exact Nat.one_pos
  | cp i => revert i; intro i; fin_cases i <;> exact View.dmaCredit_pos _ (by decide)
  | _ => exact N_pos

/-- What the cell of a kind hands to its owner `c`. -/
def pay (c : Dev nD) (d : Fin 7) : Kind → sProp 𝕄
  | .bar => barPay c d
  | .cp i => cpPay V c i
  | .rsS k => mpt c (chunk (peer c k)) fullShare (Sbuf V c)
  | .rsR k => mpt c (slot rsM (peer c k)) fullShare (Rbuf V c)
  | .agS k => mpt c (slot agM c) (lent k) (Abuf V)
  | .agR k => mpt c (slot agM (peer c k)) fullShare (Abuf V)

/-- The barrier takes one unit from each of seven devices; every other cell takes one copy. -/
def dutiesOf : Kind → Finset (Fin 7)
  | .bar => Finset.univ
  | _ => {0}

def Rd : Rounds.Schedule (GSem nD τ sig) (Fin 7) 𝕄 where
  duties g r := if r = 0 ∧ g.1.2 = .tc then ((kindOf g.1.1 g.2).map dutiesOf).getD ∅ else ∅
  unitless _ := False
  amount g _ _ := ((kindOf g.1.1 g.2).map amt).getD 1
  payload g _ d := ((kindOf g.1.1 g.2).map (pay V g.1.1 d)).getD iprop(emp)
  amount_pos g _ _ _ := by
    cases kindOf g.1.1 g.2 with
    | none => exact Nat.one_pos
    | some κ => exact amt_pos κ

set_option synthInstance.maxHeartbeats 400000 in
instance barPay_storable (c : Dev nD) (d : Fin 7) : BI.Storable (upEmb : UEmb _ 𝕄) (barPay (F := F) c d) := by
  unfold barPay; infer_instance
instance cpPay_storable (c : Dev nD) (i : Fin 5) : BI.Storable (upEmb : UEmb _ 𝕄) (cpPay V c i) := by
  fin_cases i <;> (show BI.Storable upEmb iprop(pt c _ fullShare _ ∗ pt c _ fullShare _); infer_instance)
instance mpt_storable {s : Shape} {e : EltTy} (c : Dev nD) (M : Memref sig .tc .vmem s e) (q : PosShare TreeShare) (f : Buf (Elt F) (M.view.loc (c : Thread nD τ))) :
    BI.Storable (upEmb : UEmb _ 𝕄) (mpt c M q f) := by infer_instance
instance pay_storable (c : Dev nD) (d : Fin 7) (κ : Kind) : BI.Storable (upEmb : UEmb _ 𝕄) (pay V c d κ) := by
  cases κ with
  | bar => exact barPay_storable c d
  | cp i => exact cpPay_storable V c i
  | rsS k => exact mpt_storable ..
  | rsR k => exact mpt_storable ..
  | agS k => exact mpt_storable ..
  | agR k => exact mpt_storable ..

instance Rd_storable (g : GSem nD τ sig) (r : ℕ) (d : Fin 7) : BI.Storable (upEmb : UEmb _ 𝕄) ((Rd V).payload g r d) := by
  show BI.Storable upEmb (((kindOf g.1.1 g.2).map (pay V g.1.1 d)).getD iprop(emp))
  cases kindOf g.1.1 g.2 with
  | none => show BI.Storable upEmb (iprop(emp) : sProp 𝕄); infer_instance
  | some κ => exact pay_storable V g.1.1 d κ

theorem duties_cell (c : Dev nD) (κ : Kind) : (Rd V).duties (cell c κ) 0 = dutiesOf κ := by
  have h : (if 0 = 0 ∧ (c : Thread nD τ).2 = .tc then ((kindOf c (semOf c κ)).map dutiesOf).getD ∅ else ∅) = dutiesOf κ := by
    rw [if_pos ⟨rfl, rfl⟩, kindOf_semOf]; rfl
  exact h
theorem duties_later (g : GSem nD τ sig) (r : ℕ) (hr : 1 ≤ r) : (Rd V).duties g r = ∅ :=
  if_neg fun h => by omega
theorem amount_cell (c : Dev nD) (κ : Kind) (d : Fin 7) : (Rd V).amount (cell c κ) 0 d = amt κ := by
  show ((kindOf c (semOf c κ)).map amt).getD 1 = _
  rw [kindOf_semOf]; rfl
theorem payload_cell (c : Dev nD) (κ : Kind) (d : Fin 7) : (Rd V).payload (cell c κ) 0 d = pay V c d κ := by
  show ((kindOf c (semOf c κ)).map (pay V c d)).getD iprop(emp) = _
  rw [kindOf_semOf]; rfl

theorem expect_bar (c : Dev nD) : (Rd V).expect (cell c .bar) 0 = 7 := by
  unfold Schedule.expect Schedule.amountOf
  rw [duties_cell, Finset.sum_congr rfl fun d _ => amount_cell V c .bar d]; rfl
theorem expect_one (c : Dev nD) (κ : Kind) (h : dutiesOf κ = {0}) : (Rd V).expect (cell c κ) 0 = amt κ := by
  unfold Schedule.expect Schedule.amountOf
  rw [duties_cell, h, Finset.sum_singleton, amount_cell]

theorem rest_bar (c : Dev nD) :
    bigSep ((Rd V).duties (cell c .bar) 0 \ ∅) (fun d => (Rd V).payload (cell c .bar) 0 d) = bigSep Finset.univ (barPay (F := F) c) := by
  rw [Finset.sdiff_empty, duties_cell]
  exact bigSep_congr fun d _ => payload_cell V c .bar d
theorem rest_one (c : Dev nD) (κ : Kind) (h : dutiesOf κ = {0}) :
    bigSep ((Rd V).duties (cell c κ) 0 \ ∅) (fun d => (Rd V).payload (cell c κ) 0 d) = pay V c 0 κ := by
  rw [Finset.sdiff_empty, duties_cell, h, bigSep_singleton, payload_cell]

theorem close (κ : ℕ) (g : GSem nD τ sig) :
    iprop(cellInv ER (Rd V) κ g ∗ atPos ER g (0 + 1) ∅ 0) ⊢ (|={Set.univ}=> semVal g 0 : sProp 𝕄) :=
  Rounds.cell_close ER (Rd V) (Set.mem_univ κ) id (duties_later V g)

end Schedule

/-! ## What a device owes, and the order it waits in -/

/-- The peers not yet served, from the `n`-th on. -/
abbrev from_ (n : ℕ) : Finset (Fin 7) := Finset.univ.filter fun k => n ≤ k.val

theorem from_peel (k : Fin 7) : from_ k.val = insert k (from_ (k.val + 1)) := by revert k; decide
theorem not_mem_from (k : Fin 7) : k ∉ from_ (k.val + 1) := by revert k; decide
theorem from_end : from_ 7 = ∅ := by decide

abbrev barTally (c : Dev nD) (k : Fin 7) : CellTallies nD τ sig Unit := tallyAt (cell (peer c k) .bar) () 1
abbrev rsTally (c : Dev nD) (k : Fin 7) : CellTallies nD τ sig Unit := tallyAt (cell (peer c k) (.rsR k.rev)) () N
abbrev agTally (c : Dev nD) (k : Fin 7) : CellTallies nD τ sig Unit := tallyAt (cell (peer c k) (.agR k.rev)) () N

/-- What is owed once the peers before `n` have been served. -/
def due (T : Fin 7 → CellTallies nD τ sig Unit) (n : ℕ) : CellTallies nD τ sig Unit := ∑ k ∈ from_ n, T k

theorem due_peel (T : Fin 7 → CellTallies nD τ sig Unit) (k : Fin 7) : due T k.val = due T (k.val + 1) + T k := by
  unfold due; rw [from_peel, Finset.sum_insert (not_mem_from k), add_comm]
theorem due_end (T : Fin 7 → CellTallies nD τ sig Unit) : due T 7 = 0 := by unfold due; rw [from_end, Finset.sum_empty]

/-- What device `c` owes at the start: a unit at every other device's barrier and a chunk's credit at the cells its
    fourteen remote copies complete on. -/
def O₀ (c : Dev nD) : CellTallies nD τ sig Unit := due (agTally c) 0 + due (rsTally c) 0 + due (barTally c) 0

def L (g : GSem nD τ sig) : Finset Unit := if g.1.2 = .tc then {()} else ∅
theorem L_tc (c : Dev nD) (sm : SemLoc sig) : L ((c : Thread nD τ), sm) = {()} := if_pos rfl
theorem L_of_ne (g : GSem nD τ sig) (h : g.1.2 ≠ .tc) : L g = ∅ := if_neg h

def rank : Kind → ℕ
  | .bar => 1
  | .rsR _ => 2
  | .agR _ => 3
  | _ => 0

/-- The barrier is waited for before the scatter's arrivals, those before the gather's. -/
def lv (g : GSem nD τ sig) (_ : Unit) : ℕ := ((kindOf g.1.1 g.2).map rank).getD 0
theorem lv_cell (c : Dev nD) (κ : Kind) (u : Unit) : lv (cell c κ) u = rank κ := by
  show ((kindOf c (semOf c κ)).map rank).getD 0 = _
  rw [kindOf_semOf]; rfl

/-- Everything owed lies above rank `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.tally {n : ℕ} (c : Dev nD) (κ : Kind) (x : ℕ) (h : n < rank κ) : Above n (tallyAt (cell c κ) () x) := fun g u hg => by
  rw [tallyAt_apply] at hg
  by_cases hh : g = cell c κ ∧ u = ()
  · rw [hh.1, lv_cell]; exact ⟨rfl, h⟩
  · rw [if_neg hh] at hg; exact absurd hg (Nat.lt_irrefl 0)
theorem Above.due {n : ℕ} {T : Fin 7 → CellTallies nD τ sig Unit} (h : ∀ k, Above n (T k)) (j : ℕ) : Above n (due T j) := by
  unfold Run.due
  exact Finset.sum_induction _ (Above n) (fun _ _ => Above.add) (Above.zero n) fun k _ => h k

theorem above_ag {n : ℕ} (hn : n < 3) (c : Dev nD) (j : ℕ) : Above n (due (agTally c) j) := Above.due (fun k => Above.tally _ _ _ hn) j
theorem above_rs {n : ℕ} (hn : n < 2) (c : Dev nD) (j : ℕ) : Above n (due (rsTally c) j) := Above.due (fun k => Above.tally _ _ _ hn) j

/-- A device may wait on a cell of rank at most `n` while everything it owes lies above. -/
theorem mayWait (c : Dev nD) (κ : Kind) (n : ℕ) (hκ : rank κ ≤ n) {O : CellTallies nD τ sig Unit} (hO : Above n O) :
    (levAts L lv : sProp 𝕄) ⊢ MayWait (c : Thread nD τ) (semOf c κ) () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact (lv_cell c κ ()).trans_le hκ)
    (fun g u hg => (hO g u hg).2)

end Cert.KernelIdeal.Run

end
-- ==== Proof.KernelIdeal.Steps.lean ====
/-
# The steps of the attention kernel's body, each once for every peer

A phase of the body serves the seven other devices in turn. Its state lists what is still in hand for the peers not yet
served and what has been obtained from the ones served; one lemma per phase moves the state by one peer.
-/
module

public import proofs.«01_k».proof.Proof.KernelIdeal.Proto

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## Lists of peers -/

/-- The peers already served, before the `n`-th. -/
abbrev upto (n : ℕ) : Finset (Fin 7) := Finset.univ.filter fun k => k.val < n

theorem upto_push (k : Fin 7) : upto (k.val + 1) = insert k (upto k.val) := by revert k; decide
theorem not_mem_upto (k : Fin 7) : k ∉ upto k.val := by revert k; decide
theorem upto_all : upto 7 = Finset.univ := by decide
theorem from_all : from_ 0 = Finset.univ := by decide

theorem take (Φ : Fin 7 → sProp 𝕄) {n : ℕ} (h : n < 7) : bigSep (from_ n) Φ ⊢ iprop(Φ ⟨n, h⟩ ∗ bigSep (from_ (n + 1)) Φ) := by
  have e := from_peel ⟨n, h⟩
  rw [show from_ n = insert ⟨n, h⟩ (from_ (n + 1)) from e]
  exact Entails.of_eq (BI.bigSep_insert (not_mem_from ⟨n, h⟩))
theorem give (Φ : Fin 7 → sProp 𝕄) {n : ℕ} (h : n < 7) : iprop(Φ ⟨n, h⟩ ∗ bigSep (upto n) Φ) ⊢ bigSep (upto (n + 1)) Φ := by
  have e := upto_push ⟨n, h⟩
  rw [show upto (n + 1) = insert ⟨n, h⟩ (upto n) from e]
  exact Entails.of_eq (BI.bigSep_insert (not_mem_upto ⟨n, h⟩)).symm
/-- Before the first peer nothing has been obtained. -/
theorem none_yet (Φ : Fin 7 → sProp 𝕄) : (iprop(emp) : sProp 𝕄) ⊢ bigSep (upto 0) Φ := by
  rw [show upto 0 = ∅ by decide, BI.bigSep_empty]; exact Entails.refl _
/-- After the last peer nothing is left in hand. -/
theorem none_left (Φ : Fin 7 → sProp 𝕄) : bigSep (from_ 7) Φ ⊢ (iprop(emp) : sProp 𝕄) := by
  rw [from_end, BI.bigSep_empty]; exact Entails.refl _
theorem all_served (Φ : Fin 7 → sProp 𝕄) : bigSep (upto 7) Φ = bigSep Finset.univ Φ := by rw [upto_all]
theorem all_ahead (Φ : Fin 7 → sProp 𝕄) : bigSep (from_ 0) Φ = bigSep Finset.univ Φ := by rw [from_all]

theorem due_step (T : Fin 7 → CellTallies nD τ sig Unit) {n : ℕ} (h : n < 7) : due T n = due T (n + 1) + T ⟨n, h⟩ := due_peel T ⟨n, h⟩

/-! ## What every device knows and owes -/

section Steps

variable (V : Dev nD → Valuation τ sig (Elt F)) (K : Dev nD × Kind → ℕ)

/-- Every cell of every device is under its invariant, and the waiting order is in force. -/
def know : sProp 𝕄 :=
  iprop((bigSep (Finset.univ : Finset (Dev nD × Kind)) fun p => cellInv ER (Rd V) (K p) (cell p.1 p.2)) ∗ levAts L lv)

instance know_persistent : BI.Persistent (know V K) := by unfold know; infer_instance

theorem know_inv (p : Dev nD × Kind) : know V K ⊢ cellInv ER (Rd V) (K p) (cell p.1 p.2) := by
  unfold know
  exact sep_elim_left.trans (BI.bigSep_elim (Φ := fun p : Dev nD × Kind => (cellInv ER (Rd V) (K p) (cell p.1 p.2) : sProp 𝕄)) (Finset.mem_univ p))

theorem know_lev : know V K ⊢ (levAts L lv : sProp 𝕄) := by
  unfold know
  iintro ⟨-, H⟩; iexact H

/-- Device `c` owes `O`. -/
def owing (c : Dev nD) (O : CellTallies nD τ sig Unit) : sProp 𝕄 := iprop(∃ W, owes (c : Thread nD τ) O W)

/-! ## The barrier -/

/-- In hand for signalling the `k`-th other device. -/
def sigRes (c : Dev nD) (k : Fin 7) : sProp 𝕄 :=
  iprop(dutyTok ER (cell (peer c k) .bar) 0 k.rev ∗ reached ER (cell (peer c k) .bar) 0 ∗ barPay (F := F) (peer c k) k.rev)

/-- Before the `n`-th signal: the seven signals and all copies from there on are owed. -/
def sigSt (c : Dev nD) (n : ℕ) : sProp 𝕄 :=
  iprop(owing c (due (agTally c) 0 + due (rsTally c) 0 + due (barTally c) n) ∗ bigSep (from_ n) (sigRes c))

theorem step_signal {α : Type} {Q : α → sProp 𝕄} {k : PUnit → Prog (TpuEff nD τ sig (Elt F) Λ₀ .tc) α}
    (c p : Dev nD) (n : ℕ) (hn : n < 7) (s : Sem sig) (x : ℕ) (hp : p = peer c ⟨n, hn⟩) (hs : s = barrier0) (hx : x = 1) :
    iprop(know V K ∗ sigSt (F := F) c n)
      ⊢ iprop((sigSt (F := F) c (n + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((p : Dev nD), .tc) s x) k) Q) := by
  subst hp hs hx
  unfold sigSt owing
  iintro ⟨#HI, ⟨%W, HO⟩, Hs⟩ Hk
  ihave ⟨Hn, Hs⟩ := (take (sigRes c) hn) $$ Hs
  unfold sigRes
  icases Hn with ⟨Ht, Hr, Hp⟩
  iapply (Rounds.wp_signal 𝒱₀ ER (Rd V) (c : Thread nD τ) none (dst := (peer c ⟨n, hn⟩ : Thread nD τ)) (sem := barrier0) (r := 0)
      (d := Fin.rev ⟨n, hn⟩) (κ := K (peer c ⟨n, hn⟩, .bar))
      (by rw [show (((peer c ⟨n, hn⟩ : Thread nD τ), .reg barrier0) : GSem nD τ sig) = cell (peer c ⟨n, hn⟩) .bar from rfl, duties_cell]; exact Finset.mem_univ _)
      (amount_cell V (peer c ⟨n, hn⟩) .bar _) () (O₀ := due (agTally c) 0 + due (rsTally c) 0 + due (barTally c) n) (due (agTally c) 0 + due (rsTally c) 0 + due (barTally c) (n + 1))
      (by rw [due_step (barTally c) hn, ← add_assoc]; rfl)) $$ [HO Ht Hr Hp]
  · isplitr; · iapply (know_inv V K (peer c ⟨n, hn⟩, .bar)) $$ HI
    isplitl [HO]; · iexact HO
    isplitl [Ht]; · iexact Ht
    isplitl [Hp]
    · iapply (show barPay (peer c ⟨n, hn⟩) (Fin.rev ⟨n, hn⟩) ⊢ (Rd V).payload ((peer c ⟨n, hn⟩ : Thread nD τ), .reg barrier0) 0 (Fin.rev ⟨n, hn⟩) from
        Entails.of_eq (payload_cell V (peer c ⟨n, hn⟩) .bar (Fin.rev ⟨n, hn⟩)).symm) $$ Hp
    iexact Hr
  iintro HO
  iapply Hk
  isplitl [HO]; · iexists W; iexact HO
  iexact Hs

theorem step_barrier {α : Type} {Q : α → sProp 𝕄} {k : PUnit → Prog (TpuEff nD τ sig (Elt F) Λ₀ .tc) α}
    (c : Dev nD) (s : Sem sig) (x : ℤ) (hs : s = barrier0) (hx : x = 7) :
    iprop(know V K ∗ sigSt (F := F) c 7 ∗ cred (tallyAt (cell c .bar) () 7) ∗ atPos ER (cell c .bar) 0 ∅ 0)
      ⊢ iprop(((owing c (due (agTally c) 0 + due (rsTally c) 0) ∗ semVal (cell c .bar) 0 ∗ bigSep Finset.univ (barPay (F := F) c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s x) k) Q) := by
  subst hs hx
  unfold sigSt owing
  rw [due_end, add_zero]
  iintro ⟨#HI, ⟨⟨%W, HO⟩, -⟩, Hc, Hat⟩ Hk
  iapply (Rounds.wp_wait_rest_token 𝒱₀ ER (Rd V) (c : Thread nD τ) none (κ := K (c, .bar)) (sm := .reg barrier0) (k' := 7)
      (wpE_semWait_eq 𝒱₀ (c : Thread nD τ) none Set.univ) (Set.mem_univ _) () (O := due (agTally c) 0 + due (rsTally c) 0) (W := W) (R := 0) (m := 0) (T := ∅)
      (by rw [show (((c : Thread nD τ), .reg barrier0) : GSem nD τ sig) = cell c .bar from rfl, expect_bar])) $$ [Hc HO Hat]
  · isplitr; · iapply (know_inv V K (c, .bar)) $$ HI
    isplitl [Hc]; · iexact Hc
    isplitl [HO]; · iexact HO
    isplitr
    · iapply ((know_lev V K).trans (mayWait c .bar 1 le_rfl ((above_ag (by decide) c 0).add (above_rs (by decide) c 0)))) $$ HI
    iexact Hat
  iintro ⟨HO, Hat, -, Hpay⟩
  ihave Hp := (show bigSep ((Rd V).duties ((c : Thread nD τ), .reg barrier0) 0 \ ∅) (fun d => (Rd V).payload ((c : Thread nD τ), .reg barrier0) 0 d) ⊢ bigSep Finset.univ (barPay (F := F) c) from
    Entails.of_eq (rest_bar V c)) $$ Hpay
  imod (close V (K (c, .bar)) (cell c .bar)) $$ [Hat] with Hz
  · isplitr; · iapply (know_inv V K (c, .bar)) $$ HI
    iexact Hat
  iapply Hk
  isplitl [HO]; · iexists _; iexact HO
  isplitl [Hz] <;> iassumption

/-! ## Local copies -/

/-- In hand for the `i`-th staging copy, besides the two buffers. -/
def cpRes (c : Dev nD) (i : Fin 5) : sProp 𝕄 := iprop(dutyTok ER (cell c (.cp i)) 0 0 ∗ reached ER (cell c (.cp i)) 0 ∗ atPos ER (cell c (.cp i)) 0 ∅ 0)

/-- While the `i`-th staging copy is under way. -/
def cpFly (c : Dev nD) (i : Fin 5) : sProp 𝕄 := iprop(cred (tallyAt (cell c (.cp i)) () (cpAmt i)) ∗ atPos ER (cell c (.cp i)) 0 ∅ 0)

theorem step_copy {α : Type} {Q : α → sProp 𝕄} {k : PUnit → Prog (TpuEff nD τ sig (Elt F) Λ₀ .tc) α}
    {s : Shape} {e : EltTy} (c : Dev nD) (i : Fin 5) {src : Memref sig .tc .hbm s e} {dst : Memref sig .tc .vmem s e} {sm : SemLoc sig}
    (hs : sm = semOf c (.cp i))
    {hsrc : src.view.WordExact} {hdst : dst.view.WordExact} {hsem : DmaTarget.Typed (nD := nD) .hbm sm (DmaTarget.here (nD := nD) (p := (Proc.tc : Proc τ)) dst)}
    (fs : Buf (Elt F) (src.view.loc (c : Thread nD τ))) (fd : Buf (Elt F) (dst.view.loc (c : Thread nD τ)))
    (hN : ∀ i' : DmaSem sig, dst.view.amount (.dma i') = cpAmt i)
    (hpay : iprop((dst.view.loc (c : Thread nD τ) ↦[dst.view.set]{fullShare} (dst.view.write (Elt F) fd (src.view.read (Elt F) fs) Finset.univ))
              ∗ (src.view.loc (c : Thread nD τ) ↦[src.view.set]{fullShare} fs)) ⊢ cpPay V c i) :
    iprop(know V K ∗ cpRes (F := F) c i ∗ (src.view.loc (c : Thread nD τ) ↦[src.view.set]{fullShare} fs) ∗ (dst.view.loc (c : Thread nD τ) ↦[dst.view.set]{fullShare} fd))
      ⊢ iprop((cpFly (F := F) c i -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) sm hsrc hdst hsem) k) Q) := by
  subst hs
  unfold cpRes cpFly
  iintro ⟨#HI, ⟨Ht, Hr, Hat⟩, Hs, Hd⟩ Hk
  iapply (Rounds.wp_copy_pointsTo 𝒱₀ ER (Rd V) (c : Thread nD τ) none (src := src) (dst := dst) (sem := semOf c (.cp i)) (q := fullShare) (fs := fs) (fd := fd)
      (r := 0) (d := 0) (κ := K (c, .cp i))
      (by rw [show (((c : Thread nD τ), semOf c (.cp i)) : GSem nD τ sig) = cell c (.cp i) from rfl, duties_cell]; exact Finset.mem_singleton_self _)
      () (cpAmt i) (hN _) (amount_cell V c (.cp i) 0)
      (hpay.trans (Entails.of_eq (payload_cell V c (.cp i) 0).symm))) $$ [Ht Hr Hs Hd]
  · isplitr; · iapply (know_inv V K (c, .cp i)) $$ HI
    isplitl [Hs]; · iexact Hs
    isplitl [Hd]; · iexact Hd
    isplitl [Ht] <;> iassumption
  iintro Hc
  iapply Hk
  isplitl [Hc] <;> iassumption

/-! ## Waiting for one copy -/

theorem step_wait {α : Type} {Q : α → sProp 𝕄} {k : PUnit → Prog (TpuEff nD τ sig (Elt F) Λ₀ .tc) α}
    (c : Dev nD) (κ : Kind) (h1 : dutiesOf κ = {0}) (r : ℕ) (hκ : rank κ ≤ r) {O : CellTallies nD τ sig Unit} (hO : Above r O)
    {sp sp' : Space} {s s' : Shape} {e e' : EltTy} {i : DmaSem sig} (hi : SemLoc.dma i = semOf c κ)
    {src : Memref sig .tc sp' s' e'} {dst : Memref sig .tc sp s e} {hsrc : src.view.WordExact} {hdst : dst.view.WordExact}
    (hN : dst.view.dmaCredit = amt κ) :
    iprop(know V K ∗ owing c O ∗ cred (tallyAt (cell c κ) () (amt κ)) ∗ atPos ER (cell c κ) 0 ∅ 0)
      ⊢ iprop(((owing c O ∗ pay V c 0 κ ∗ semVal (cell c κ) 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 i src dst hsrc hdst) k) Q) := by
  unfold owing
  iintro ⟨#HI, ⟨%W, HO⟩, Hc, Hat⟩ Hk
  iapply (Rounds.wp_wait_rest_token 𝒱₀ ER (Rd V) (c : Thread nD τ) none (κ := K (c, κ)) (sm := semOf c κ) (k' := amt κ)
      (fun J => (wpE_waitDma2_eq 𝒱₀ (c : Thread nD τ) none Set.univ J).trans (by rw [hi, hN])) (Set.mem_univ _) () (O := O) (W := W) (R := 0) (m := 0) (T := ∅)
      (by rw [show (((c : Thread nD τ), semOf c κ) : GSem nD τ sig) = cell c κ from rfl, expect_one V c κ h1, Nat.zero_add])) $$ [Hc HO Hat]
  · isplitr; · iapply (know_inv V K (c, κ)) $$ HI
    isplitl [Hc]; · iexact Hc
    isplitl [HO]; · iexact HO
    isplitr
    · iapply ((know_lev V K).trans (mayWait c κ r hκ hO)) $$ HI
    iexact Hat
  iintro ⟨HO, Hat, -, Hpay⟩
  ihave Hp := (Entails.of_eq (rest_one V c κ h1)) $$ Hpay
  imod (close V (K (c, κ)) (cell c κ)) $$ [Hat] with Hz
  · isplitr; · iapply (know_inv V K (c, κ)) $$ HI
    iexact Hat
  iapply Hk
  isplitl [HO]; · iexists _; iexact HO
  isplitl [Hp] <;> iassumption

/-- In hand for waiting on one cell per peer. -/
def wtRes (c : Dev nD) (κ : Fin 7 → Kind) (k : Fin 7) : sProp 𝕄 := iprop(cred (tallyAt (cell c (κ k)) () N) ∗ atPos ER (cell c (κ k)) 0 ∅ 0)
/-- Obtained from the wait. -/
def wtGot (c : Dev nD) (κ : Fin 7 → Kind) (k : Fin 7) : sProp 𝕄 := iprop(pay V c 0 (κ k) ∗ semVal (cell c (κ k)) 0)

/-- Before the `n`-th of seven waits, owing `O` throughout. -/
def wtSt (c : Dev nD) (κ : Fin 7 → Kind) (O : CellTallies nD τ sig Unit) (n : ℕ) : sProp 𝕄 :=
  iprop(owing c O ∗ bigSep (from_ n) (wtRes (F := F) c κ) ∗ bigSep (upto n) (wtGot V c κ))

theorem step_waits {α : Type} {Q : α → sProp 𝕄} {k : PUnit → Prog (TpuEff nD τ sig (Elt F) Λ₀ .tc) α}
    (c : Dev nD) (κ : Fin 7 → Kind) (h1 : ∀ k, dutiesOf (κ k) = {0}) (h2 : ∀ k, amt (κ k) = N)
    (r : ℕ) (hκ : ∀ k, rank (κ k) ≤ r) {O : CellTallies nD τ sig Unit} (hO : Above r O) (n : ℕ) (hn : n < 7)
    {sp sp' : Space} {s s' : Shape} {e e' : EltTy} {i : DmaSem sig} (hi : SemLoc.dma i = semOf c (κ ⟨n, hn⟩))
    {src : Memref sig .tc sp' s' e'} {dst : Memref sig .tc sp s e} {hsrc : src.view.WordExact} {hdst : dst.view.WordExact}
    (hN : dst.view.dmaCredit = N) :
    iprop(know V K ∗ wtSt V c κ O n)
      ⊢ iprop((wtSt V c κ O (n + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 i src dst hsrc hdst) k) Q) := by
  unfold wtSt
  iintro ⟨#HI, HO, Hs, Hg⟩ Hk
  ihave ⟨Hn, Hs⟩ := (take (wtRes c κ) hn) $$ Hs
  unfold wtRes
  icases Hn with ⟨Hc, Hat⟩
  iapply (step_wait V K c (κ ⟨n, hn⟩) (h1 _) r (hκ _) hO hi (hN.trans (h2 _).symm)) $$ [HO Hc Hat]
  · isplitr; · iexact HI
    isplitl [HO]; · iexact HO
    rw [h2]
    isplitl [Hc] <;> iassumption
  iintro ⟨HO, Hp, Hz⟩
  iapply Hk
  isplitl [HO]; · iexact HO
  isplitl [Hs]; · iexact Hs
  iapply (give (wtGot V c κ) hn)
  isplitl [Hp Hz]
  · unfold wtGot; isplitl [Hp] <;> iassumption
  iexact Hg

/-! ## Remote copies -/

/-- In hand for the remote copy to the `k`-th other device: both ends' payment rights, the source and the destination. -/
def sdRes (c : Dev nD) (κS κR : Fin 7 → Kind) (src : Fin 7 → sProp 𝕄) (M : Memref sig .tc .vmem S8x32x512 .f32) (k : Fin 7) : sProp 𝕄 :=
  iprop(dutyTok ER (cell c (κS k)) 0 0 ∗ reached ER (cell c (κS k)) 0
    ∗ dutyTok ER (cell (peer c k) (κR k.rev)) 0 0 ∗ reached ER (cell (peer c k) (κR k.rev)) 0
    ∗ src k ∗ ∃ f, mpt (peer c k) (slot M c) fullShare f)

/-- Obtained: the right to wait for the source. -/
def sdGot (c : Dev nD) (κS : Fin 7 → Kind) (k : Fin 7) : sProp 𝕄 := cred (tallyAt (cell c (κS k)) () N)

def scSrc (c : Dev nD) (k : Fin 7) : sProp 𝕄 := mpt c (chunk (peer c k)) fullShare (Sbuf V c)
def gaSrc (c : Dev nD) (k : Fin 7) : sProp 𝕄 := mpt c (slot agM c) (lent k) (Abuf V)

/-- Before the `n`-th of the scatter's copies. -/
def scSt (c : Dev nD) (n : ℕ) : sProp 𝕄 :=
  iprop(owing c (due (agTally c) 0 + due (rsTally c) n) ∗ bigSep (from_ n) (sdRes c .rsS .rsR (scSrc V c) rsM) ∗ bigSep (upto n) (sdGot (F := F) c .rsS))
/-- Before the `n`-th of the gather's copies. -/
def gaSt (c : Dev nD) (n : ℕ) : sProp 𝕄 :=
  iprop(owing c (due (agTally c) n) ∗ bigSep (from_ n) (sdRes c .agS .agR (gaSrc V c) agM) ∗ bigSep (upto n) (sdGot (F := F) c .agS))

theorem step_scatter {α : Type} {Q : α → sProp 𝕄} {k : PUnit → Prog (TpuEff nD τ sig (Elt F) Λ₀ .tc) α}
    (c p : Dev nD) (n : ℕ) (hn : n < 7) (hp : p = peer c ⟨n, hn⟩)
    {src dst : Memref sig .tc .vmem S32x512 .f32} {sS sR : SemLoc sig}
    (hsrc' : src = chunk (peer c ⟨n, hn⟩)) (hdst' : dst = slot rsM c) (hsS : sS = semOf c (.rsS ⟨n, hn⟩)) (hsR : sR = semOf (peer c ⟨n, hn⟩) (.rsR (Fin.rev ⟨n, hn⟩)))
    {hsc : (dst : Memref sig (Dev.tc p : Thread nD τ).2.kind .vmem S32x512 .f32).view.ref.isScScratch = false}
    {hsrc : src.view.WordExact} {hdst : (dst : Memref sig (Dev.tc p : Thread nD τ).2.kind .vmem S32x512 .f32).view.WordExact}
    {hsem : DmaTarget.Typed .vmem sR (.remote (Dev.tc p : Thread nD τ) dst sS hsc)} :
    iprop(know V K ∗ scSt V c n)
      ⊢ iprop((scSt V c (n + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc p : Thread nD τ) dst sS hsc) sR hsrc hdst hsem) k) Q) := by
  subst hp hsrc' hdst' hsS hsR
  unfold scSt owing
  iintro ⟨#HI, ⟨%W, HO⟩, Hs, Hg⟩ Hk
  ihave ⟨Hn, Hs⟩ := (take (sdRes c .rsS .rsR (scSrc V c) rsM) hn) $$ Hs
  unfold sdRes scSrc
  icases Hn with ⟨HtS, HrS, HtR, HrR, Hsrc, ⟨%f, Hdst⟩⟩
  iapply (Rounds.wp_send_pointsTo 𝒱₀ ER (Rd V) (c : Thread nD τ) none (c' := (peer c ⟨n, hn⟩ : Thread nD τ)) (src := chunk (peer c ⟨n, hn⟩)) (dst := slot rsM c)
      (sS := semOf c (.rsS ⟨n, hn⟩)) (sem := semOf (peer c ⟨n, hn⟩) (.rsR (Fin.rev ⟨n, hn⟩))) (q := fullShare) (fs := Sbuf V c) (fd := f)
      (κ₁ := K (c, .rsS ⟨n, hn⟩)) (κ₂ := K (peer c ⟨n, hn⟩, .rsR (Fin.rev ⟨n, hn⟩))) (r₁ := 0) (r₂ := 0) (d₁ := 0) (d₂ := 0)
      (by rw [show (((c : Thread nD τ), semOf c (.rsS ⟨n, hn⟩)) : GSem nD τ sig) = cell c (.rsS ⟨n, hn⟩) from rfl, duties_cell]; exact Finset.mem_singleton_self _)
      (by rw [show (((peer c ⟨n, hn⟩ : Thread nD τ), semOf (peer c ⟨n, hn⟩) (.rsR (Fin.rev ⟨n, hn⟩))) : GSem nD τ sig) = cell (peer c ⟨n, hn⟩) (.rsR (Fin.rev ⟨n, hn⟩)) from rfl, duties_cell]; exact Finset.mem_singleton_self _)
      () () N rfl (amount_cell V c (.rsS ⟨n, hn⟩) 0) (amount_cell V (peer c ⟨n, hn⟩) (.rsR (Fin.rev ⟨n, hn⟩)) 0)
      (O₀ := due (agTally c) 0 + due (rsTally c) n) (due (agTally c) 0 + due (rsTally c) (n + 1)) (by rw [due_step (rsTally c) hn, ← add_assoc]) (W := W)
      (Entails.of_eq (payload_cell V c (.rsS ⟨n, hn⟩) 0).symm)
      ((Entails.of_eq (pointsTo_congr (landed_rs V (peer c ⟨n, hn⟩) c f))).trans
        (Entails.of_eq ((payload_cell V (peer c ⟨n, hn⟩) (.rsR (Fin.rev ⟨n, hn⟩)) 0).trans
          (congrArg (fun s => mpt (peer c ⟨n, hn⟩) (slot rsM s) fullShare (Rbuf V (peer c ⟨n, hn⟩))) (peer_rev c ⟨n, hn⟩))).symm))) $$ [HO HtS HrS HtR HrR Hsrc Hdst]
  · isplitr; · iapply (know_inv V K (c, .rsS ⟨n, hn⟩)) $$ HI
    isplitr; · iapply (know_inv V K (peer c ⟨n, hn⟩, .rsR (Fin.rev ⟨n, hn⟩))) $$ HI
    isplitl [Hsrc]; · iexact Hsrc
    isplitl [Hdst]; · iexact Hdst
    isplitl [HO]; · iexact HO
    isplitl [HtS]; · iexact HtS
    isplitl [HrS]; · iexact HrS
    isplitl [HtR] <;> iassumption
  iintro ⟨Hc, HO⟩
  iapply Hk
  isplitl [HO]; · iexists W; iexact HO
  isplitl [Hs]; · iexact Hs
  iapply (give (sdGot c .rsS) hn)
  isplitl [Hc]; · unfold sdGot; iexact Hc
  iexact Hg

theorem step_gather {α : Type} {Q : α → sProp 𝕄} {k : PUnit → Prog (TpuEff nD τ sig (Elt F) Λ₀ .tc) α}
    (c p : Dev nD) (n : ℕ) (hn : n < 7) (hp : p = peer c ⟨n, hn⟩)
    {src dst : Memref sig .tc .vmem S32x512 .f32} {sS sR : SemLoc sig}
    (hsrc' : src = slot agM c) (hdst' : dst = slot agM c) (hsS : sS = semOf c (.agS ⟨n, hn⟩)) (hsR : sR = semOf (peer c ⟨n, hn⟩) (.agR (Fin.rev ⟨n, hn⟩)))
    {hsc : (dst : Memref sig (Dev.tc p : Thread nD τ).2.kind .vmem S32x512 .f32).view.ref.isScScratch = false}
    {hsrc : src.view.WordExact} {hdst : (dst : Memref sig (Dev.tc p : Thread nD τ).2.kind .vmem S32x512 .f32).view.WordExact}
    {hsem : DmaTarget.Typed .vmem sR (.remote (Dev.tc p : Thread nD τ) dst sS hsc)} :
    iprop(know V K ∗ gaSt V c n)
      ⊢ iprop((gaSt V c (n + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc p : Thread nD τ) dst sS hsc) sR hsrc hdst hsem) k) Q) := by
  subst hp hsrc' hdst' hsS hsR
  unfold gaSt owing
  iintro ⟨#HI, ⟨%W, HO⟩, Hs, Hg⟩ Hk
  ihave ⟨Hn, Hs⟩ := (take (sdRes c .agS .agR (gaSrc V c) agM) hn) $$ Hs
  unfold sdRes gaSrc
  icases Hn with ⟨HtS, HrS, HtR, HrR, Hsrc, ⟨%f, Hdst⟩⟩
  iapply (Rounds.wp_send_pointsTo 𝒱₀ ER (Rd V) (c : Thread nD τ) none (c' := (peer c ⟨n, hn⟩ : Thread nD τ)) (src := slot agM c) (dst := slot agM c)
      (sS := semOf c (.agS ⟨n, hn⟩)) (sem := semOf (peer c ⟨n, hn⟩) (.agR (Fin.rev ⟨n, hn⟩))) (q := lent ⟨n, hn⟩) (fs := Abuf V) (fd := f)
      (κ₁ := K (c, .agS ⟨n, hn⟩)) (κ₂ := K (peer c ⟨n, hn⟩, .agR (Fin.rev ⟨n, hn⟩))) (r₁ := 0) (r₂ := 0) (d₁ := 0) (d₂ := 0)
      (by rw [show (((c : Thread nD τ), semOf c (.agS ⟨n, hn⟩)) : GSem nD τ sig) = cell c (.agS ⟨n, hn⟩) from rfl, duties_cell]; exact Finset.mem_singleton_self _)
      (by rw [show (((peer c ⟨n, hn⟩ : Thread nD τ), semOf (peer c ⟨n, hn⟩) (.agR (Fin.rev ⟨n, hn⟩))) : GSem nD τ sig) = cell (peer c ⟨n, hn⟩) (.agR (Fin.rev ⟨n, hn⟩)) from rfl, duties_cell]; exact Finset.mem_singleton_self _)
      () () N rfl (amount_cell V c (.agS ⟨n, hn⟩) 0) (amount_cell V (peer c ⟨n, hn⟩) (.agR (Fin.rev ⟨n, hn⟩)) 0)
      (O₀ := due (agTally c) n) (due (agTally c) (n + 1)) (by rw [due_step (agTally c) hn]) (W := W)
      (Entails.of_eq (payload_cell V c (.agS ⟨n, hn⟩) 0).symm)
      ((Entails.of_eq (pointsTo_congr (landed_ag V (peer c ⟨n, hn⟩) c f))).trans
        (Entails.of_eq ((payload_cell V (peer c ⟨n, hn⟩) (.agR (Fin.rev ⟨n, hn⟩)) 0).trans
          (congrArg (fun s => mpt (peer c ⟨n, hn⟩) (slot agM s) fullShare (Abuf V)) (peer_rev c ⟨n, hn⟩))).symm))) $$ [HO HtS HrS HtR HrR Hsrc Hdst]
  · isplitr; · iapply (know_inv V K (c, .agS ⟨n, hn⟩)) $$ HI
    isplitr; · iapply (know_inv V K (peer c ⟨n, hn⟩, .agR (Fin.rev ⟨n, hn⟩))) $$ HI
    isplitl [Hsrc]; · iexact Hsrc
    isplitl [Hdst]; · iexact Hdst
    isplitl [HO]; · iexact HO
    isplitl [HtS]; · iexact HtS
    isplitl [HrS]; · iexact HrS
    isplitl [HtR] <;> iassumption
  iintro ⟨Hc, HO⟩
  iapply Hk
  isplitl [HO]; · iexists W; iexact HO
  isplitl [Hs]; · iexact Hs
  iapply (give (sdGot c .agS) hn)
  isplitl [Hc]; · unfold sdGot; iexact Hc
  iexact Hg

end Steps

end Cert.KernelIdeal.Run

end
-- ==== Proof.KernelIdeal.Pieces.lean ====
/-
# The buffers cut by device, and what the body's loads, stores and copies name

The slots of the two chunk buffers and the chunks of the partial product partition their buffers, one part per device.
The offsets the program computes from its device name the parts and semaphores the protocol speaks of.
-/
module

public import proofs.«01_k».proof.Proof.KernelIdeal.Steps
public import Idealize.ShloMosaic.Lib.Ring
public import Idealize.ShloMosaic.Lib.Pipeline.Value

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Devices as oneself and the seven others -/

theorem devices (c : Dev nD) : (Finset.univ : Finset (Dev nD)) = insert c (Finset.univ.map ⟨peer c, peer_inj c⟩) := by revert c; decide
theorem self_not_peer (c : Dev nD) : c ∉ Finset.univ.map ⟨peer c, peer_inj c⟩ := by revert c; decide

theorem by_device (c : Dev nD) (Φ : Dev nD → sProp 𝕄) : bigSep Finset.univ Φ = iprop(Φ c ∗ bigSep Finset.univ fun k => Φ (peer c k)) := by
  rw [devices c, BI.bigSep_insert (self_not_peer c), BI.bigSep_map]; rfl

/-! ## Slots and chunks -/

theorem mem_slot (s : Dev nD) (i : S8x32x512.Idx) : i ∈ (slot rsM s).view.set ↔ (i 0).val = s.val := by
  constructor
  · intro hi
    obtain ⟨j, -, rfl⟩ := Finset.mem_map.mp hi
    exact slot_emb s j 0
  · intro h
    have hc : i 1 < (32 : ℕ) := (i 1).isLt
    refine Finset.mem_map.mpr ⟨(fun a => match a with | 0 => (⟨(i 1).val, (i 1).isLt⟩ : Fin 32) | 1 => (⟨(i 2).val, (i 2).isLt⟩ : Fin 512) : S32x512.Idx), Finset.mem_univ _, ?_⟩
    funext a
    apply Fin.ext
    refine (slot_emb s _ a).trans ?_
    fin_cases a
    · exact h.symm
    · rfl
    · rfl

theorem mem_chunk (s : Dev nD) (i : S256x512.Idx) : i ∈ (chunk s).view.set ↔ (i 0).val / 32 = s.val := by
  constructor
  · intro hi
    obtain ⟨j, -, rfl⟩ := Finset.mem_map.mp hi
    have h0 : ((chunk s).view.emb j 0 : ℕ) = 32 * s.val + (j 0).val := chunk_emb s j 0
    have h1 : (j 0).val < 32 := (j 0).isLt
    rw [h0]; omega
  · intro h
    refine Finset.mem_map.mpr ⟨(fun a => match a with | 0 => (⟨(i 0).val % 32, Nat.mod_lt _ (by decide)⟩ : Fin 32) | 1 => (⟨(i 1).val, (i 1).isLt⟩ : Fin 512) : S32x512.Idx), Finset.mem_univ _, ?_⟩
    funext a
    apply Fin.ext
    refine (chunk_emb s _ a).trans ?_
    fin_cases a
    · show 32 * s.val + (i 0).val % 32 = (i 0).val
      omega
    · rfl

/-- The device whose slot an element of the slot buffers lies in. -/
abbrev slotOf (i : S8x32x512.Idx) : Dev nD := ⟨(i 0).val, (i 0).isLt⟩
/-- The device whose chunk a row of the partial product lies in. -/
abbrev chunkOf (i : S256x512.Idx) : Dev nD := ⟨(i 0).val / 32, by have hi : (i 0).val < 256 := (i 0).isLt; show _ < 8; omega⟩

/-- A family of sets told apart by a label partitions the whole, over the devices. -/
theorem cut_by {ℓ : Loc nD τ sig} (c : Dev nD) (I : Dev nD → Finset (Idx ℓ)) (lab : Idx ℓ → Dev nD) (h : ∀ s i, i ∈ I s ↔ lab i = s)
    (q : PosShare TreeShare) (f : Buf (Elt F) ℓ) :
    (ℓ ↦{q} f : sProp 𝕄) = iprop((ℓ ↦[I c]{q} f) ∗ bigSep Finset.univ fun k => ℓ ↦[I (peer c k)]{q} f) :=
  (Ring.pointsTo_blocks I (fun s s' hs => Finset.disjoint_left.mpr fun i h1 h2 => hs (((h s i).mp h1).symm.trans ((h s' i).mp h2)))
    (Finset.eq_univ_of_forall fun i => Finset.mem_biUnion.mpr ⟨lab i, Finset.mem_univ _, (h _ i).mpr rfl⟩) f).trans
    (by_device c fun s => ℓ ↦[I s]{q} f)

theorem ag_set (s : Dev nD) : (slot agM s).view.set = (slot rsM s).view.set := rfl

/-- The scatter's buffer is its eight slots. -/
theorem rs_slots (c : Dev nD) (q : PosShare TreeShare) (f : Vec F S8x32x512 .f32) :
    (pt c cc0_scratch5 q f : sProp 𝕄) = iprop(mpt c (slot rsM c) q f ∗ bigSep Finset.univ fun k => mpt c (slot rsM (peer c k)) q f) :=
  cut_by (ℓ := (c : Thread nD τ).loc cc0_scratch5) c (fun s : Dev nD => (slot rsM s).view.set) slotOf (fun s i => (mem_slot s i).trans Fin.ext_iff.symm) q f
/-- The gather's buffer is its eight slots. -/
theorem ag_slots (c : Dev nD) (q : PosShare TreeShare) (f : Vec F S8x32x512 .f32) :
    (pt c cc0_scratch6 q f : sProp 𝕄) = iprop(mpt c (slot agM c) q f ∗ bigSep Finset.univ fun k => mpt c (slot agM (peer c k)) q f) :=
  cut_by (ℓ := (c : Thread nD τ).loc cc0_scratch6) c (fun s : Dev nD => (slot agM s).view.set) slotOf
    (fun s i => by rw [ag_set]; exact (mem_slot s i).trans Fin.ext_iff.symm) q f
/-- The partial product is its eight chunks. -/
theorem sd_chunks (c : Dev nD) (q : PosShare TreeShare) (f : Vec F S256x512 .f32) :
    (pt c cc0_scratch7 q f : sProp 𝕄) = iprop(mpt c (chunk c) q f ∗ bigSep Finset.univ fun k => mpt c (chunk (peer c k)) q f) :=
  cut_by (ℓ := (c : Thread nD τ).loc cc0_scratch7) c (fun s : Dev nD => (chunk s).view.set) chunkOf
    (fun s i => ⟨fun h => Fin.ext ((mem_chunk s i).mp h), fun h => (mem_chunk s i).mpr (congrArg Fin.val h)⟩) q f

/-- A slot of the gather's buffer, held in full, as the kept share and the seven lent ones. -/
theorem ag_shares (c s : Dev nD) (f : Vec F S8x32x512 .f32) :
    (mpt c (slot agM s) fullShare f : sProp 𝕄) ⊣⊢ iprop(mpt c (slot agM s) kept f ∗ bigSep Finset.univ fun k : Fin 7 => mpt c (slot agM s) (lent k) f) :=
  Transfers.pointsTo_toks fullShare 7

/-! ## Offsets -/

theorem dev_signal (c : Dev nD) :
    (⟨k0_dev1 c, k0_dev1_lt c⟩ : Dev nD) = peer c 0 ∧ (⟨k0_dev2 c, k0_dev2_lt c⟩ : Dev nD) = peer c 1 ∧ (⟨k0_dev3 c, k0_dev3_lt c⟩ : Dev nD) = peer c 2
      ∧ (⟨k0_dev4 c, k0_dev4_lt c⟩ : Dev nD) = peer c 3 ∧ (⟨k0_dev5 c, k0_dev5_lt c⟩ : Dev nD) = peer c 4 ∧ (⟨k0_dev6 c, k0_dev6_lt c⟩ : Dev nD) = peer c 5
      ∧ (⟨k0_dev7 c, k0_dev7_lt c⟩ : Dev nD) = peer c 6 :=
  ⟨Fin.ext (k0_dev1_eq c), Fin.ext (k0_dev2_eq c), Fin.ext (k0_dev3_eq c), Fin.ext (k0_dev4_eq c), Fin.ext (k0_dev5_eq c), Fin.ext (k0_dev6_eq c), Fin.ext (k0_dev7_eq c)⟩
theorem dev_scatter (c : Dev nD) :
    (⟨k0_dev8 c, k0_dev8_lt c⟩ : Dev nD) = peer c 0 ∧ (⟨k0_dev9 c, k0_dev9_lt c⟩ : Dev nD) = peer c 1 ∧ (⟨k0_dev10 c, k0_dev10_lt c⟩ : Dev nD) = peer c 2
      ∧ (⟨k0_dev11 c, k0_dev11_lt c⟩ : Dev nD) = peer c 3 ∧ (⟨k0_dev12 c, k0_dev12_lt c⟩ : Dev nD) = peer c 4 ∧ (⟨k0_dev13 c, k0_dev13_lt c⟩ : Dev nD) = peer c 5
      ∧ (⟨k0_dev14 c, k0_dev14_lt c⟩ : Dev nD) = peer c 6 :=
  ⟨Fin.ext (k0_dev8_eq c), Fin.ext (k0_dev9_eq c), Fin.ext (k0_dev10_eq c), Fin.ext (k0_dev11_eq c), Fin.ext (k0_dev12_eq c), Fin.ext (k0_dev13_eq c), Fin.ext (k0_dev14_eq c)⟩
theorem dev_gather (c : Dev nD) :
    (⟨k0_dev15 c, k0_dev15_lt c⟩ : Dev nD) = peer c 0 ∧ (⟨k0_dev16 c, k0_dev16_lt c⟩ : Dev nD) = peer c 1 ∧ (⟨k0_dev17 c, k0_dev17_lt c⟩ : Dev nD) = peer c 2
      ∧ (⟨k0_dev18 c, k0_dev18_lt c⟩ : Dev nD) = peer c 3 ∧ (⟨k0_dev19 c, k0_dev19_lt c⟩ : Dev nD) = peer c 4 ∧ (⟨k0_dev20 c, k0_dev20_lt c⟩ : Dev nD) = peer c 5
      ∧ (⟨k0_dev21 c, k0_dev21_lt c⟩ : Dev nD) = peer c 6 :=
  ⟨Fin.ext (k0_dev15_eq c), Fin.ext (k0_dev16_eq c), Fin.ext (k0_dev17_eq c), Fin.ext (k0_dev18_eq c), Fin.ext (k0_dev19_eq c), Fin.ext (k0_dev20_eq c), Fin.ext (k0_dev21_eq c)⟩

/-- The rows the scatter's `k`-th copy reads. -/
theorem chunk_peer (c : Dev nD) (k : Fin 7) :
    sdM.slice (Rect.unit (s := S256x512) (k0_off5 c (BitVec.ofNat 32 (1 + k.val))) S32x512.size (k0_off5_inb c k)) (fun _ => rfl) = chunk (peer c k) :=
  Memref.slice_unit_congr _ ((k0_off5_eq c k).trans (k0_off1_eq (peer c k)).symm) _ _ _ _

/-- The receiving semaphores, as the sender names them on the other device. -/
theorem sem_scatter (c : Dev nD) (k : Fin 7) :
    SemLoc.dma ((cc0_scratch10.slice (Rect.unit (s := S8) (k0_off3 c) S1.size (k0_off3_inb c))).squeeze S_ squeezes_S1_S_).sem = semOf (peer c k) (.rsR k.rev) := by
  rw [SemArray.slice_unit_congr cc0_scratch10 (k0_off3_eq c) _ (by rw [← k0_off3_eq c]; exact k0_off3_inb c)]
  revert c k; decide +kernel
theorem sem_gather (c : Dev nD) (k : Fin 7) :
    SemLoc.dma ((cc0_scratch12.slice (Rect.unit (s := S8) (k0_off3 c) S1.size (k0_off3_inb c))).squeeze S_ squeezes_S1_S_).sem = semOf (peer c k) (.agR k.rev) := by
  rw [SemArray.slice_unit_congr cc0_scratch12 (k0_off3_eq c) _ (by rw [← k0_off3_eq c]; exact k0_off3_inb c)]
  revert c k; decide +kernel
/-- The receiving semaphores, as their owner names them. -/
theorem sem_arrive (c : Dev nD) (k : Fin 7) :
    SemLoc.dma ((cc0_scratch10.slice (Rect.unit (s := S8) (k0_off6 c (BitVec.ofNat 32 (1 + k.val))) S1.size (k0_off6_inb c k))).squeeze S_ squeezes_S1_S_).sem = semOf c (.rsR k) := by
  rw [SemArray.slice_unit_congr cc0_scratch10 (k0_off6_eq c k) _ (by rw [← k0_off6_eq c k]; exact k0_off6_inb c k)]
  revert c k; decide +kernel
theorem sem_arrive' (c : Dev nD) (k : Fin 7) :
    SemLoc.dma ((cc0_scratch12.slice (Rect.unit (s := S8) (k0_off6 c (BitVec.ofNat 32 (1 + k.val))) S1.size (k0_off6_inb c k))).squeeze S_ squeezes_S1_S_).sem = semOf c (.agR k) := by
  rw [SemArray.slice_unit_congr cc0_scratch12 (k0_off6_eq c k) _ (by rw [← k0_off6_eq c k]; exact k0_off6_inb c k)]
  revert c k; decide +kernel

/-! ## Loads and stores -/

theorem zero2 : (![0, 0] : Fin 2 → ℕ) = fun _ => 0 := funext fun a => by fin_cases a <;> rfl
theorem zero3 : (![0, 0, 0] : Fin 3 → ℕ) = fun _ => 0 := funext fun a => by fin_cases a <;> rfl

/-- The own slot, as the body's loads and stores name it. -/
abbrev own (M : Memref sig .tc .vmem S8x32x512 .f32) (c : Dev nD) : View sig .tc .vmem S1x32x512 .f32 :=
  M.access (Rect.unit (s := S8x32x512) (k0_off2 c) S1x32x512.size (k0_off2_inb c))

theorem own_emb (c : Dev nD) (j : S1x32x512.Idx) (a : Fin 3) : ((own rsM c).emb j a : ℕ) = (![c.val, (j 1).val, (j 2).val] : Fin 3 → ℕ) a := by
  refine (congrArg₂ (· + ·) (congrFun (k0_off2_eq c) a) (Nat.one_mul _)).trans ?_
  have h0 : (j 0).val < 1 := (j 0).isLt
  fin_cases a
  · show c.val + (j 0).val = c.val
    omega
  · exact Nat.zero_add _
  · exact Nat.zero_add _

theorem own_set (c : Dev nD) : (own rsM c).set = (slot rsM c).view.set := by
  ext i
  rw [mem_slot]
  constructor
  · intro hi
    obtain ⟨j, -, rfl⟩ := Finset.mem_map.mp hi
    exact own_emb c j 0
  · intro h
    refine Finset.mem_map.mpr ⟨(fun a => match a with | 0 => (0 : Fin 1) | 1 => (⟨(i 1).val, (i 1).isLt⟩ : Fin 32) | 2 => (⟨(i 2).val, (i 2).isLt⟩ : Fin 512) : S1x32x512.Idx), Finset.mem_univ _, ?_⟩
    funext a
    apply Fin.ext
    refine (own_emb c _ a).trans ?_
    fin_cases a
    · exact h.symm
    · rfl
    · rfl

theorem own_set_ag (c : Dev nD) : (own agM c).set = (slot agM c).view.set := own_set c

/-- A store through the own slot, read back at one of its elements. -/
theorem own_write (c : Dev nD) (f : Vec F S8x32x512 .f32) (w : Vec F S1x32x512 .f32) (j : S1x32x512.Idx) :
    (own rsM c).write (Elt F) f w Finset.univ ((own rsM c).emb j) = w j :=
  View.write_emb_of_mem (v := own rsM c) _ _ (Finset.mem_univ j)
theorem own_write_ag (c : Dev nD) (f : Vec F S8x32x512 .f32) (w : Vec F S1x32x512 .f32) (j : S1x32x512.Idx) :
    (own agM c).write (Elt F) f w Finset.univ ((own agM c).emb j) = w j :=
  View.write_emb_of_mem (v := own agM c) _ _ (Finset.mem_univ j)

/-- An element of a slot without its leading axis of length one. -/
abbrev flatIdx (j : S1x32x512.Idx) : S32x512.Idx := fun a => match a with
  | 0 => (⟨(j 1).val, (j 1).isLt⟩ : Fin 32)
  | 1 => (⟨(j 2).val, (j 2).isLt⟩ : Fin 512)

theorem pay27_at (w : Vec F S32x512 .f32) (j : S1x32x512.Idx) : k0_pay27 w j = w (flatIdx j) := by
  refine shapeCast_apply w shapeCasts_S32x512_S1x32x512 j (flatIdx j) ?_
  have hj : (j 0).val < 1 := (j 0).isLt
  rw [Shape.rowMajor_val_two, Shape.rowMajor_val_three]
  show (j 1).val * 512 + (j 2).val = ((j 0).val * 32 + (j 1).val) * 512 + (j 2).val
  omega

/-- The own element, by its three places. -/
abbrev ownIdx (c : Dev nD) (j : S1x32x512.Idx) : S8x32x512.Idx := fun a => match a with
  | 0 => (c : Fin 8)
  | 1 => (⟨(j 1).val, (j 1).isLt⟩ : Fin 32)
  | 2 => (⟨(j 2).val, (j 2).isLt⟩ : Fin 512)
theorem own_emb_eq (c : Dev nD) (j : S1x32x512.Idx) : (own rsM c).emb j = ownIdx c j := by
  funext a
  apply Fin.ext
  refine (own_emb c j a).trans ?_
  fin_cases a <;> rfl
theorem own_emb_eq_ag (c : Dev nD) (j : S1x32x512.Idx) : (own agM c).emb j = ownIdx c j := own_emb_eq c j

variable (V : Dev nD → Valuation τ sig (Elt F))

theorem chunk_read (c : Dev nD) (f : Vec F S256x512 .f32) (j : S1x32x512.Idx) :
    sdM.view.readAt (Elt F) (Rect.unit (s := S256x512) (k0_off1 c) S32x512.size (k0_off1_inb c)).toLoadRect f (flatIdx j)
      = f fun a => match a with
        | 0 => (⟨32 * c.val + (j 1).val, by have : c.val < 8 := c.isLt; have : (j 1).val < 32 := (j 1).isLt; omega⟩ : Fin 256)
        | 1 => (⟨(j 2).val, (j 2).isLt⟩ : Fin 512) := by
  show f ((chunk c).view.emb (flatIdx j)) = f _
  congr 1
  funext a
  apply Fin.ext
  rw [chunk_emb c (flatIdx j) a]
  fin_cases a <;> rfl

/-- The own chunk stored in the own slot is what `Rbuf` says. -/
theorem stored_rs (c : Dev nD) (f : Vec F S8x32x512 .f32) :
    ∀ i ∈ (slot rsM c).view.set,
      (own rsM c).write (Elt F) f (k0_pay27 (sdM.view.readAt (Elt F) (Rect.unit (s := S256x512) (k0_off1 c) S32x512.size (k0_off1_inb c)).toLoadRect (Sbuf V c))) Finset.univ i
        = Rbuf V c i := by
  intro i hi
  rw [← own_set] at hi
  obtain ⟨j, -, rfl⟩ := Finset.mem_map.mp hi
  rw [own_write, pay27_at, own_emb_eq]
  exact chunk_read c (Sbuf V c) j

/-- The device's sum stored in its own slot is what `Abuf` says. -/
theorem stored_ag (c : Dev nD) (f : Vec F S8x32x512 .f32) :
    ∀ i ∈ (slot agM c).view.set, (own agM c).write (Elt F) f (k0_pay28 (Rbuf V c)) Finset.univ i = Abuf V i := by
  intro i hi
  rw [← own_set_ag] at hi
  obtain ⟨j, -, rfl⟩ := Finset.mem_map.mp hi
  rw [own_write_ag, own_emb_eq_ag]
  refine congrArg (k0_pay28 (Rbuf V c)) (funext fun a => Fin.ext ?_)
  have hj : (j 0).val < 1 := (j 0).isLt
  fin_cases a
  · show (j 0).val = 0
    omega
  · rfl
  · rfl

end Cert.KernelIdeal.Run

end
-- ==== Proof.KernelIdeal.Ops.lean ====
/-
# Waits for the staging copies, and loads of the staged keys and values
-/
module

public import proofs.«01_k».proof.Proof.KernelIdeal.Pieces

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Ops

variable (V : Dev nD → Valuation τ sig (Elt F)) (K : Dev nD × Kind → ℕ)

/-! ## The staging copies -/

/-- A staged operand with its operand back and its semaphore at rest. -/
def cpDone (c : Dev nD) (i : Fin 5) : sProp 𝕄 := iprop(cpPay V c i ∗ semVal (cell c (.cp i)) 0)

/-- What is owed between the barrier and the scatter. -/
abbrev owed1 (c : Dev nD) : CellTallies nD τ sig Unit := due (agTally c) 0 + due (rsTally c) 0

theorem above_owed1 (c : Dev nD) : Above 0 (owed1 c) := (above_ag (by decide) c 0).add (above_rs (by decide) c 0)

theorem step_staged {α : Type} {Q : α → sProp 𝕄} {k : PUnit → Prog (TpuEff nD τ sig (Elt F) Λ₀ .tc) α}
    (c : Dev nD) (i : Fin 5) {sp sp' : Space} {s s' : Shape} {e e' : EltTy} {j : DmaSem sig} (hi : SemLoc.dma j = semOf c (.cp i))
    {src : Memref sig .tc sp' s' e'} {dst : Memref sig .tc sp s e} {hsrc : src.view.WordExact} {hdst : dst.view.WordExact}
    (hN : dst.view.dmaCredit = cpAmt i) :
    iprop(know V K ∗ owing c (owed1 c) ∗ cpFly (F := F) c i)
      ⊢ iprop(((owing c (owed1 c) ∗ cpDone V c i) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 j src dst hsrc hdst) k) Q) := by
  unfold cpFly cpDone
  exact step_wait V K c (.cp i) rfl 0 le_rfl (above_owed1 c) hi hN

/-! ## Loads of the staged operands -/

theorem slab_read_k (f : Vec F S2x128x512 .f32) (b : Fin 2) (h : Fin 8) {off : Fin 3 → ℕ} (ho : off = ![b.val, 0, 64 * h.val])
    (inb : ∀ a, off a + S1x128x64.size a ≤ S2x128x512.size a) :
    kM.view.readAt (Elt F) (Rect.unit (s := S2x128x512) off S1x128x64.size inb).toLoadRect f = slab f b h := by
  subst ho
  funext j
  refine congrArg f (funext fun a => Fin.ext ?_)
  have h0 : (j 0).val < 1 := (j 0).isLt
  fin_cases a
  · show b.val + 1 * (j 0).val = b.val
    omega
  · show 0 + 1 * (j 1).val = (j 1).val
    omega
  · show 64 * h.val + 1 * (j 2).val = 64 * h.val + (j 2).val
    omega
theorem slab_read_v (f : Vec F S2x128x512 .f32) (b : Fin 2) (h : Fin 8) {off : Fin 3 → ℕ} (ho : off = ![b.val, 0, 64 * h.val])
    (inb : ∀ a, off a + S1x128x64.size a ≤ S2x128x512.size a) :
    vM.view.readAt (Elt F) (Rect.unit (s := S2x128x512) off S1x128x64.size inb).toLoadRect f = slab f b h :=
  slab_read_k f b h ho inb

theorem step_key {α : Type} {Q : α → sProp 𝕄} {k : Vec F S1x128x64 .f32 → Prog (TpuEff nD τ sig (Elt F) Λ₀ .tc) α}
    (c : Dev nD) (b : Fin 2) (h : Fin 8) {off : Fin 3 → ℕ} (ho : off = ![b.val, 0, 64 * h.val])
    {inb : ∀ a, off a + S1x128x64.size a ≤ S2x128x512.size a} {hl : kM.view.LoadsAt (Rect.unit (s := S2x128x512) off S1x128x64.size inb).toLoadRect} :
    cpDone V c 3 ⊢ iprop((cpDone V c 3 -∗ wp frame (wpE (defs₀ (F := F)) 𝒱₀ (c : Thread nD τ) none) Set.univ (k (slab (V c main_v14) b h)) Q)
      -∗ wp frame (wpE (defs₀ (F := F)) 𝒱₀ (c : Thread nD τ) none) Set.univ (.op (.load kM (Rect.unit (s := S2x128x512) off S1x128x64.size inb).toLoadRect hl) k) Q) := by
  unfold cpDone cpPay
  iintro ⟨⟨H, Ho⟩, Hz⟩ Hk
  iapply (wp_load 𝒱₀ (c : Thread nD τ) none Set.univ (m := kM) (S := Finset.univ) (Finset.subset_univ _)) $$ H
  iintro H
  rw [slab_read_k (V c main_v14) b h ho inb]
  iapply Hk
  isplitr [Hz]
  · isplitl [H] <;> iassumption
  iexact Hz
theorem step_val {α : Type} {Q : α → sProp 𝕄} {k : Vec F S1x128x64 .f32 → Prog (TpuEff nD τ sig (Elt F) Λ₀ .tc) α}
    (c : Dev nD) (b : Fin 2) (h : Fin 8) {off : Fin 3 → ℕ} (ho : off = ![b.val, 0, 64 * h.val])
    {inb : ∀ a, off a + S1x128x64.size a ≤ S2x128x512.size a} {hl : vM.view.LoadsAt (Rect.unit (s := S2x128x512) off S1x128x64.size inb).toLoadRect} :
    cpDone V c 4 ⊢ iprop((cpDone V c 4 -∗ wp frame (wpE (defs₀ (F := F)) 𝒱₀ (c : Thread nD τ) none) Set.univ (k (slab (V c main_v15) b h)) Q)
      -∗ wp frame (wpE (defs₀ (F := F)) 𝒱₀ (c : Thread nD τ) none) Set.univ (.op (.load vM (Rect.unit (s := S2x128x512) off S1x128x64.size inb).toLoadRect hl) k) Q) := by
  unfold cpDone cpPay
  iintro ⟨⟨H, Ho⟩, Hz⟩ Hk
  iapply (wp_load 𝒱₀ (c : Thread nD τ) none Set.univ (m := vM) (S := Finset.univ) (Finset.subset_univ _)) $$ H
  iintro H
  rw [slab_read_v (V c main_v15) b h ho inb]
  iapply Hk
  isplitr [Hz]
  · isplitl [H] <;> iassumption
  iexact Hz

theorem step_input {α : Type} {Q : α → sProp 𝕄} {k : Vec F S2x128x512 .f32 → Prog (TpuEff nD τ sig (Elt F) Λ₀ .tc) α} (c : Dev nD)
    {inb : ∀ a, (![0, 0, 0] : Fin _ → ℕ) a + S2x128x512.size a ≤ S2x128x512.size a} {hl : xM.view.LoadsAt (Rect.unit (s := S2x128x512) ![0, 0, 0] S2x128x512.size inb).toLoadRect} :
    cpDone V c 0 ⊢ iprop((cpDone V c 0 -∗ wp frame (wpE (defs₀ (F := F)) 𝒱₀ (c : Thread nD τ) none) Set.univ (k (V c main_arg0)) Q)
      -∗ wp frame (wpE (defs₀ (F := F)) 𝒱₀ (c : Thread nD τ) none) Set.univ (.op (.load xM (Rect.unit (s := S2x128x512) ![0, 0, 0] S2x128x512.size inb).toLoadRect hl) k) Q) := by
  unfold cpDone cpPay
  iintro ⟨⟨H, Ho⟩, Hz⟩ Hk
  iapply (wp_load 𝒱₀ (c : Thread nD τ) none Set.univ (m := xM) (S := Finset.univ) (Finset.subset_univ _)) $$ H
  iintro H
  rw [show xM.view.readAt (Elt F) (Rect.unit (s := S2x128x512) ![0, 0, 0] S2x128x512.size inb).toLoadRect (V c main_arg0) = V c main_arg0 from
    Memref.readAt_unit_zero (Elt F) cc0_scratch0 zero3 inb _]
  iapply Hk
  isplitr [Hz]
  · isplitl [H] <;> iassumption
  iexact Hz
theorem step_wq {α : Type} {Q : α → sProp 𝕄} {k : Vec F S512x512 .f32 → Prog (TpuEff nD τ sig (Elt F) Λ₀ .tc) α} (c : Dev nD)
    {inb : ∀ a, (![0, 0] : Fin _ → ℕ) a + S512x512.size a ≤ S512x512.size a} {hl : wqM.view.LoadsAt (Rect.unit (s := S512x512) ![0, 0] S512x512.size inb).toLoadRect} :
    cpDone V c 1 ⊢ iprop((cpDone V c 1 -∗ wp frame (wpE (defs₀ (F := F)) 𝒱₀ (c : Thread nD τ) none) Set.univ (k (V c main_arg1)) Q)
      -∗ wp frame (wpE (defs₀ (F := F)) 𝒱₀ (c : Thread nD τ) none) Set.univ (.op (.load wqM (Rect.unit (s := S512x512) ![0, 0] S512x512.size inb).toLoadRect hl) k) Q) := by
  unfold cpDone cpPay
  iintro ⟨⟨H, Ho⟩, Hz⟩ Hk
  iapply (wp_load 𝒱₀ (c : Thread nD τ) none Set.univ (m := wqM) (S := Finset.univ) (Finset.subset_univ _)) $$ H
  iintro H
  rw [show wqM.view.readAt (Elt F) (Rect.unit (s := S512x512) ![0, 0] S512x512.size inb).toLoadRect (V c main_arg1) = V c main_arg1 from
    Memref.readAt_unit_zero (Elt F) cc0_scratch1 zero2 inb _]
  iapply Hk
  isplitr [Hz]
  · isplitl [H] <;> iassumption
  iexact Hz
theorem step_wo {α : Type} {Q : α → sProp 𝕄} {k : Vec F S512x512 .f32 → Prog (TpuEff nD τ sig (Elt F) Λ₀ .tc) α} (c : Dev nD)
    {inb : ∀ a, (![0, 0] : Fin _ → ℕ) a + S512x512.size a ≤ S512x512.size a} {hl : woM.view.LoadsAt (Rect.unit (s := S512x512) ![0, 0] S512x512.size inb).toLoadRect} :
    cpDone V c 2 ⊢ iprop((cpDone V c 2 -∗ wp frame (wpE (defs₀ (F := F)) 𝒱₀ (c : Thread nD τ) none) Set.univ (k (V c main_arg2)) Q)
      -∗ wp frame (wpE (defs₀ (F := F)) 𝒱₀ (c : Thread nD τ) none) Set.univ (.op (.load woM (Rect.unit (s := S512x512) ![0, 0] S512x512.size inb).toLoadRect hl) k) Q) := by
  unfold cpDone cpPay
  iintro ⟨⟨H, Ho⟩, Hz⟩ Hk
  iapply (wp_load 𝒱₀ (c : Thread nD τ) none Set.univ (m := woM) (S := Finset.univ) (Finset.subset_univ _)) $$ H
  iintro H
  rw [show woM.view.readAt (Elt F) (Rect.unit (s := S512x512) ![0, 0] S512x512.size inb).toLoadRect (V c main_arg2) = V c main_arg2 from
    Memref.readAt_unit_zero (Elt F) cc0_scratch2 zero2 inb _]
  iapply Hk
  isplitr [Hz]
  · isplitl [H] <;> iassumption
  iexact Hz

end Ops

end Cert.KernelIdeal.Run

end
-- ==== Proof.KernelIdeal.BodyA.lean ====
/-
# The body up to the attention outputs: staging, the barrier, the heads
-/
module

public import proofs.«01_k».proof.Proof.KernelIdeal.Ops

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A whole buffer copied into a whole one, with the source: what the copy's payment says. -/
theorem copied {s : Shape} {e : EltTy} (c : Dev nD) (src : Memref sig .tc .hbm s e) (dst : Memref sig .tc .vmem s e)
    (hs : src.view.set = Finset.univ) (hd : dst.view.set = Finset.univ)
    (fs : Buf (Elt F) (src.view.loc (c : Thread nD τ))) (fd g : Buf (Elt F) (dst.view.loc (c : Thread nD τ)))
    (h : dst.view.write (Elt F) fd (src.view.read (Elt F) fs) Finset.univ = g) :
    iprop((dst.view.loc (c : Thread nD τ) ↦[dst.view.set]{fullShare} (dst.view.write (Elt F) fd (src.view.read (Elt F) fs) Finset.univ))
              ∗ (src.view.loc (c : Thread nD τ) ↦[src.view.set]{fullShare} fs))
      ⊢ (iprop((dst.view.loc (c : Thread nD τ) ↦{fullShare} g) ∗ (src.view.loc (c : Thread nD τ) ↦{fullShare} fs)) : sProp 𝕄) := by
  rw [h, hs, hd]

section Parts

variable (V : Dev nD → Valuation τ sig (Elt F)) (K : Dev nD × Kind → ℕ)

/-- The staging copies start, and the first three devices are signalled. -/
theorem part1_run {Q : (Σ' (d0 : Dev nD) (v2 : BitVec 32) (v13 : Sems sig S_) (v26 : BitVec 32), BitVec 32) → sProp 𝕄} (c : Dev nD) :
    iprop(know V K ∗ sigSt (F := F) c 0
      ∗ (cpRes (F := F) c 0 ∗ cpRes (F := F) c 1 ∗ cpRes (F := F) c 2 ∗ cpRes (F := F) c 3 ∗ cpRes (F := F) c 4)
      ∗ (pt c main_arg0 fullShare (V c main_arg0) ∗ pt c main_arg1 fullShare (V c main_arg1) ∗ pt c main_arg2 fullShare (V c main_arg2)
          ∗ pt c main_v14 fullShare (V c main_v14) ∗ pt c main_v15 fullShare (V c main_v15))
      ∗ (∃ f, pt c cc0_scratch0 fullShare f) ∗ (∃ f, pt c cc0_scratch1 fullShare f) ∗ (∃ f, pt c cc0_scratch2 fullShare f)
      ∗ (∃ f, pt c cc0_scratch3 fullShare f) ∗ (∃ f, pt c cc0_scratch4 fullShare f))
      ⊢ iprop((∀ (v2 v26 w : BitVec 32), (sigSt (F := F) c 3 ∗ cpFly (F := F) c 0 ∗ cpFly (F := F) c 1 ∗ cpFly (F := F) c 2 ∗ cpFly (F := F) c 3 ∗ cpFly (F := F) c 4)
            -∗ Q ⟨c, v2, SemArray.scalar (sig.barrier 0 rfl), v26, w⟩)
          -∗ wp frame (wpE (defs₀ (F := F)) 𝒱₀ (c : Thread nD τ) none) Set.univ (k0_part1 (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12) Q) := by
  iintro ⟨#HI, Hs, ⟨R0, R1, R2, R3, R4⟩, ⟨A0, A1, A2, A3, A4⟩, ⟨%f0, B0⟩, ⟨%f1, B1⟩, ⟨%f2, B2⟩, ⟨%f3, B3⟩, ⟨%f4, B4⟩⟩ Hk
  rw [k0_part1_eq_skeleton]; unfold k0_part1_skel
  simp only [semSignalWord, semWaitWord, Prog.lift, Prog.bind_op, Prog.bind_ret, Prog.pure_eq_ret, wp_deviceId]
  iapply (step_copy V K c 0 rfl (src := Memref.whole main_arg0) (dst := xM) (V c main_arg0) f0 (fun _ => rfl) (copied c (Memref.whole main_arg0) xM (by rw [View.set_whole]) (by rw [View.set_whole]) _ _ _ (by rw [View.read_whole, View.write_whole_univ]))) $$ [R0 A0 B0]
  · isplitr; · iexact HI
    isplitl [R0]; · iexact R0
    rw [View.set_whole, View.set_whole]
    isplitl [A0]
    · iexact A0
    · iexact B0
  iintro R0
  iapply (step_copy V K c 1 rfl (src := Memref.whole main_arg1) (dst := wqM) (V c main_arg1) f1 (fun _ => rfl) (copied c (Memref.whole main_arg1) wqM (by rw [View.set_whole]) (by rw [View.set_whole]) _ _ _ (by rw [View.read_whole, View.write_whole_univ]))) $$ [R1 A1 B1]
  · isplitr; · iexact HI
    isplitl [R1]; · iexact R1
    rw [View.set_whole, View.set_whole]
    isplitl [A1]
    · iexact A1
    · iexact B1
  iintro R1
  iapply (step_copy V K c 2 rfl (src := Memref.whole main_arg2) (dst := woM) (V c main_arg2) f2 (fun _ => rfl) (copied c (Memref.whole main_arg2) woM (by rw [View.set_whole]) (by rw [View.set_whole]) _ _ _ (by rw [View.read_whole, View.write_whole_univ]))) $$ [R2 A2 B2]
  · isplitr; · iexact HI
    isplitl [R2]; · iexact R2
    rw [View.set_whole, View.set_whole]
    isplitl [A2]
    · iexact A2
    · iexact B2
  iintro R2
  iapply (step_copy V K c 3 rfl (src := Memref.whole main_v14) (dst := kM) (V c main_v14) f3 (fun _ => rfl) (copied c (Memref.whole main_v14) kM (by rw [View.set_whole]) (by rw [View.set_whole]) _ _ _ (by rw [View.read_whole, View.write_whole_univ]))) $$ [R3 A3 B3]
  · isplitr; · iexact HI
    isplitl [R3]; · iexact R3
    rw [View.set_whole, View.set_whole]
    isplitl [A3]
    · iexact A3
    · iexact B3
  iintro R3
  iapply (step_copy V K c 4 rfl (src := Memref.whole main_v15) (dst := vM) (V c main_v15) f4 (fun _ => rfl) (copied c (Memref.whole main_v15) vM (by rw [View.set_whole]) (by rw [View.set_whole]) _ _ _ (by rw [View.read_whole, View.write_whole_univ]))) $$ [R4 A4 B4]
  · isplitr; · iexact HI
    isplitl [R4]; · iexact R4
    rw [View.set_whole, View.set_whole]
    isplitl [A4]
    · iexact A4
    · iexact B4
  iintro R4
  iapply (step_signal V K c _ 0 (by decide) _ _ (dev_signal c).1 rfl rfl) $$ [Hs]
  · isplitr; · iexact HI
    iexact Hs
  iintro Hs
  iapply (step_signal V K c _ 1 (by decide) _ _ (dev_signal c).2.1 rfl rfl) $$ [Hs]
  · isplitr; · iexact HI
    iexact Hs
  iintro Hs
  iapply (step_signal V K c _ 2 (by decide) _ _ (dev_signal c).2.2.1 rfl rfl) $$ [Hs]
  · isplitr; · iexact HI
    iexact Hs
  iintro Hs
  rw [wp_ret]
  imodintro
  iapply Hk
  iframe

/-- The other four are signalled; once all seven have signalled, the input and the query weights are read. -/
theorem part2_run {Q : FVec F S256x512 .f32 → sProp 𝕄} (c : Dev nD) (v2 v26 w : BitVec 32) :
    iprop(know V K ∗ sigSt (F := F) c 3 ∗ cred (tallyAt (cell c .bar) () 7) ∗ atPos ER (cell c .bar) 0 ∅ 0 ∗ cpFly (F := F) c 0 ∗ cpFly (F := F) c 1)
      ⊢ iprop(((owing c (owed1 c) ∗ semVal (cell c .bar) 0 ∗ bigSep Finset.univ (barPay (F := F) c) ∗ cpDone V c 0 ∗ cpDone V c 1)
            -∗ Q (k0_pay1 (V c main_arg0) (V c main_arg1)))
          -∗ wp frame (wpE (defs₀ (F := F)) 𝒱₀ (c : Thread nD τ) none) Set.univ (k0_part2 (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12 c v2 (SemArray.scalar (sig.barrier 0 rfl)) v26 w) Q) := by
  iintro ⟨#HI, Hs, Hc, Hat, R0, R1⟩ Hk
  rw [k0_part2_eq_skeleton]; unfold k0_part2_skel
  simp only [semSignalWord, semWaitWord, Prog.lift, Prog.bind_op, Prog.bind_ret, Prog.pure_eq_ret, wp_deviceId]
  iapply (step_signal V K c _ 3 (by decide) _ _ (dev_signal c).2.2.2.1 rfl rfl) $$ [Hs]
  · isplitr; · iexact HI
    iexact Hs
  iintro Hs
  iapply (step_signal V K c _ 4 (by decide) _ _ (dev_signal c).2.2.2.2.1 rfl rfl) $$ [Hs]
  · isplitr; · iexact HI
    iexact Hs
  iintro Hs
  iapply (step_signal V K c _ 5 (by decide) _ _ (dev_signal c).2.2.2.2.2.1 rfl rfl) $$ [Hs]
  · isplitr; · iexact HI
    iexact Hs
  iintro Hs
  iapply (step_signal V K c _ 6 (by decide) _ _ (dev_signal c).2.2.2.2.2.2 rfl rfl) $$ [Hs]
  · isplitr; · iexact HI
    iexact Hs
  iintro Hs
  iapply (step_barrier V K c _ _ rfl rfl) $$ [Hs Hc Hat]
  · isplitr; · iexact HI
    iframe
  iintro ⟨HO, Hz, Hb⟩
  iapply (step_staged V K c 0 rfl rfl) $$ [HO R0]
  · isplitr; · iexact HI
    isplitl [HO] <;> iassumption
  iintro ⟨HO, R0⟩
  iapply (step_staged V K c 1 rfl rfl) $$ [HO R1]
  · isplitr; · iexact HI
    isplitl [HO] <;> iassumption
  iintro ⟨HO, R1⟩
  iapply (step_input V c) $$ R0; iintro R0
  iapply (step_wq V c) $$ R1; iintro R1
  rw [wp_ret]
  imodintro
  iapply Hk
  iframe

/-- The keys and values have been staged; head 0 and part of head 1 of the first batch. -/
theorem part3_run {Q : (Σ' (v71 : FVec F S128x64 .f32) (v76 : FVec F S128x64 .f32) (v84 : FVec F S128x128 .f32), FVec F S128x1 .f32) → sProp 𝕄}
    (c : Dev nD) (q : FVec F S256x512 .f32) :
    iprop(know V K ∗ owing c (owed1 c) ∗ cpFly (F := F) c 3 ∗ cpFly (F := F) c 4)
      ⊢ iprop(((owing c (owed1 c) ∗ cpDone V c 3 ∗ cpDone V c 4)
            -∗ Q ⟨k0_pay2 q (slab (V c main_v14) 0 0) (slab (V c main_v15) 0 0), k0_pay3 (slab (V c main_v15) 0 1), k0_pay4 q (slab (V c main_v14) 0 1), k0_pay5 q (slab (V c main_v14) 0 1)⟩)
          -∗ wp frame (wpE (defs₀ (F := F)) 𝒱₀ (c : Thread nD τ) none) Set.univ (k0_part3 (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12 q) Q) := by
  iintro ⟨#HI, HO, H3, H4⟩ Hk
  rw [k0_part3_eq_skeleton]; unfold k0_part3_skel
  simp only [semSignalWord, semWaitWord, Prog.lift, Prog.bind_op, Prog.bind_ret, Prog.pure_eq_ret, wp_deviceId]
  iapply (step_staged V K c 3 rfl rfl) $$ [HO H3]
  · isplitr; · iexact HI
    isplitl [HO] <;> iassumption
  iintro ⟨HO, H3⟩
  iapply (step_staged V K c 4 rfl rfl) $$ [HO H4]
  · isplitr; · iexact HI
    isplitl [HO] <;> iassumption
  iintro ⟨HO, H4⟩
  iapply (step_key V c 0 0 rfl) $$ H3; iintro H3
  iapply (step_val V c 0 0 rfl) $$ H4; iintro H4
  iapply (step_key V c 0 1 rfl) $$ H3; iintro H3
  iapply (step_val V c 0 1 rfl) $$ H4; iintro H4
  rw [wp_ret]
  imodintro
  iapply Hk
  iframe

theorem part4_run {Q : (Σ' (v89 : FVec F S128x64 .f32) (v107 : FVec F S128x64 .f32) (v112 : FVec F S128x64 .f32), FVec F S128x128 .f32) → sProp 𝕄} (c : Dev nD) (v49 : FVec F S256x512 .f32) (v76 : FVec F S128x64 .f32) (v84 : FVec F S128x128 .f32) (v86 : FVec F S128x1 .f32) :
    iprop(cpDone V c 3 ∗ cpDone V c 4)
      ⊢ iprop(((cpDone V c 3 ∗ cpDone V c 4) -∗ Q ⟨k0_pay6 v76 v84 v86, k0_pay7 v49 (slab (V c main_v14) 0 2) (slab (V c main_v15) 0 2), k0_pay8 (slab (V c main_v15) 0 3), k0_pay9 v49 (slab (V c main_v14) 0 3)⟩)
          -∗ wp frame (wpE (defs₀ (F := F)) 𝒱₀ (c : Thread nD τ) none) Set.univ (k0_part4 (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12 v49 v76 v84 v86) Q) := by
  iintro ⟨H3, H4⟩ Hk
  rw [k0_part4_eq_skeleton]; unfold k0_part4_skel
  simp only [semSignalWord, semWaitWord, Prog.lift, Prog.bind_op, Prog.bind_ret, Prog.pure_eq_ret, wp_deviceId]
  iapply (step_key V c 0 2 rfl) $$ H3; iintro H3
  iapply (step_val V c 0 2 rfl) $$ H4; iintro H4
  iapply (step_key V c 0 3 rfl) $$ H3; iintro H3
  iapply (step_val V c 0 3 rfl) $$ H4; iintro H4
  rw [wp_ret]
  imodintro
  iapply Hk
  isplitl [H3] <;> iassumption

theorem part5_run {Q : (Σ' (v125 : FVec F S128x64 .f32) (v143 : FVec F S128x64 .f32), FVec F S128x64 .f32) → sProp 𝕄} (c : Dev nD) (v49 : FVec F S256x512 .f32) (v112 : FVec F S128x64 .f32) (v124 : FVec F S128x128 .f32) :
    iprop(cpDone V c 3 ∗ cpDone V c 4)
      ⊢ iprop(((cpDone V c 3 ∗ cpDone V c 4) -∗ Q ⟨k0_pay10 v112 v124, k0_pay11 v49 (slab (V c main_v14) 0 4) (slab (V c main_v15) 0 4), k0_pay12 v49 (slab (V c main_v14) 0 5) (slab (V c main_v15) 0 5)⟩)
          -∗ wp frame (wpE (defs₀ (F := F)) 𝒱₀ (c : Thread nD τ) none) Set.univ (k0_part5 (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12 v49 v112 v124) Q) := by
  iintro ⟨H3, H4⟩ Hk
  rw [k0_part5_eq_skeleton]; unfold k0_part5_skel
  simp only [semSignalWord, semWaitWord, Prog.lift, Prog.bind_op, Prog.bind_ret, Prog.pure_eq_ret, wp_deviceId]
  iapply (step_key V c 0 4 rfl) $$ H3; iintro H3
  iapply (step_val V c 0 4 rfl) $$ H4; iintro H4
  iapply (step_key V c 0 5 rfl) $$ H3; iintro H3
  iapply (step_val V c 0 5 rfl) $$ H4; iintro H4
  rw [wp_ret]
  imodintro
  iapply Hk
  isplitl [H3] <;> iassumption

theorem part6_run {Q : (Σ' (v198 : FVec F S128x512 .f32), FVec F S128x64 .f32) → sProp 𝕄} (c : Dev nD) (v49 : FVec F S256x512 .f32) (v71 : FVec F S128x64 .f32) (v89 : FVec F S128x64 .f32) (v107 : FVec F S128x64 .f32) (v125 : FVec F S128x64 .f32) (v143 : FVec F S128x64 .f32) (v161 : FVec F S128x64 .f32) :
    iprop(cpDone V c 3 ∗ cpDone V c 4)
      ⊢ iprop(((cpDone V c 3 ∗ cpDone V c 4) -∗ Q ⟨k0_pay13 v49 v71 v89 v107 v125 v143 v161 (slab (V c main_v14) 0 6) (slab (V c main_v15) 0 6) (slab (V c main_v14) 0 7) (slab (V c main_v15) 0 7), k0_pay14 v49⟩)
          -∗ wp frame (wpE (defs₀ (F := F)) 𝒱₀ (c : Thread nD τ) none) Set.univ (k0_part6 (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12 v49 v71 v89 v107 v125 v143 v161) Q) := by
  iintro ⟨H3, H4⟩ Hk
  rw [k0_part6_eq_skeleton]; unfold k0_part6_skel
  simp only [semSignalWord, semWaitWord, Prog.lift, Prog.bind_op, Prog.bind_ret, Prog.pure_eq_ret, wp_deviceId]
  iapply (step_key V c 0 6 rfl) $$ H3; iintro H3
  iapply (step_val V c 0 6 rfl) $$ H4; iintro H4
  iapply (step_key V c 0 7 rfl) $$ H3; iintro H3
  iapply (step_val V c 0 7 rfl) $$ H4; iintro H4
  rw [wp_ret]
  imodintro
  iapply Hk
  isplitl [H3] <;> iassumption

theorem part7_run {Q : (Σ' (v216 : FVec F S128x64 .f32) (v234 : FVec F S128x64 .f32), FVec F S128x64 .f32) → sProp 𝕄} (c : Dev nD) (v49 : FVec F S256x512 .f32) (v199 : FVec F S128x64 .f32) :
    iprop(cpDone V c 3 ∗ cpDone V c 4)
      ⊢ iprop(((cpDone V c 3 ∗ cpDone V c 4) -∗ Q ⟨k0_pay15 v199 (slab (V c main_v14) 1 0) (slab (V c main_v15) 1 0), k0_pay16 v49 (slab (V c main_v14) 1 1) (slab (V c main_v15) 1 1), k0_pay17 v49⟩)
          -∗ wp frame (wpE (defs₀ (F := F)) 𝒱₀ (c : Thread nD τ) none) Set.univ (k0_part7 (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12 v49 v199) Q) := by
  iintro ⟨H3, H4⟩ Hk
  rw [k0_part7_eq_skeleton]; unfold k0_part7_skel
  simp only [semSignalWord, semWaitWord, Prog.lift, Prog.bind_op, Prog.bind_ret, Prog.pure_eq_ret, wp_deviceId]
  iapply (step_key V c 1 0 rfl) $$ H3; iintro H3
  iapply (step_val V c 1 0 rfl) $$ H4; iintro H4
  iapply (step_key V c 1 1 rfl) $$ H3; iintro H3
  iapply (step_val V c 1 1 rfl) $$ H4; iintro H4
  rw [wp_ret]
  imodintro
  iapply Hk
  isplitl [H3] <;> iassumption

theorem part8_run {Q : (Σ' (v252 : FVec F S128x64 .f32) (v270 : FVec F S128x64 .f32) (v271 : FVec F S128x64 .f32), Vec F S1x128x64 .f32) → sProp 𝕄} (c : Dev nD) (v49 : FVec F S256x512 .f32) (v235 : FVec F S128x64 .f32) :
    iprop(cpDone V c 3 ∗ cpDone V c 4)
      ⊢ iprop(((cpDone V c 3 ∗ cpDone V c 4) -∗ Q ⟨k0_pay18 v235 (slab (V c main_v14) 1 2) (slab (V c main_v15) 1 2), k0_pay19 v49 (slab (V c main_v14) 1 3) (slab (V c main_v15) 1 3), k0_pay20 v49, (slab (V c main_v14) 1 4)⟩)
          -∗ wp frame (wpE (defs₀ (F := F)) 𝒱₀ (c : Thread nD τ) none) Set.univ (k0_part8 (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12 v49 v235) Q) := by
  iintro ⟨H3, H4⟩ Hk
  rw [k0_part8_eq_skeleton]; unfold k0_part8_skel
  simp only [semSignalWord, semWaitWord, Prog.lift, Prog.bind_op, Prog.bind_ret, Prog.pure_eq_ret, wp_deviceId]
  iapply (step_key V c 1 2 rfl) $$ H3; iintro H3
  iapply (step_val V c 1 2 rfl) $$ H4; iintro H4
  iapply (step_key V c 1 3 rfl) $$ H3; iintro H3
  iapply (step_val V c 1 3 rfl) $$ H4; iintro H4
  iapply (step_key V c 1 4 rfl) $$ H3; iintro H3
  rw [wp_ret]
  imodintro
  iapply Hk
  isplitl [H3] <;> iassumption

theorem part9_run {Q : (Σ' (v288 : FVec F S128x64 .f32) (v306 : FVec F S128x64 .f32) (v307 : FVec F S128x64 .f32), FVec F S128x64 .f32) → sProp 𝕄} (c : Dev nD) (v49 : FVec F S256x512 .f32) (v271 : FVec F S128x64 .f32) (v272 : Vec F S1x128x64 .f32) :
    iprop(cpDone V c 3 ∗ cpDone V c 4)
      ⊢ iprop(((cpDone V c 3 ∗ cpDone V c 4) -∗ Q ⟨k0_pay21 v271 v272 (slab (V c main_v15) 1 4), k0_pay22 v49 (slab (V c main_v14) 1 5) (slab (V c main_v15) 1 5), k0_pay23 v49, k0_pay24 (slab (V c main_v14) 1 6)⟩)
          -∗ wp frame (wpE (defs₀ (F := F)) 𝒱₀ (c : Thread nD τ) none) Set.univ (k0_part9 (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12 v49 v271 v272) Q) := by
  iintro ⟨H3, H4⟩ Hk
  rw [k0_part9_eq_skeleton]; unfold k0_part9_skel
  simp only [semSignalWord, semWaitWord, Prog.lift, Prog.bind_op, Prog.bind_ret, Prog.pure_eq_ret, wp_deviceId]
  iapply (step_val V c 1 4 rfl) $$ H4; iintro H4
  iapply (step_key V c 1 5 rfl) $$ H3; iintro H3
  iapply (step_val V c 1 5 rfl) $$ H4; iintro H4
  iapply (step_key V c 1 6 rfl) $$ H3; iintro H3
  rw [wp_ret]
  imodintro
  iapply Hk
  isplitl [H3] <;> iassumption

/-- The last heads of the second batch; the output weights have been staged. -/
theorem part10_run {Q : (Σ' (v344 : FVec F S256x512 .f32), Vec F S512x512 .f32) → sProp 𝕄} (c : Dev nD) (v49 : FVec F S256x512 .f32) (v198 : FVec F S128x512 .f32) (v216 : FVec F S128x64 .f32) (v234 : FVec F S128x64 .f32) (v252 : FVec F S128x64 .f32) (v270 : FVec F S128x64 .f32) (v288 : FVec F S128x64 .f32) (v306 : FVec F S128x64 .f32) (v307 : FVec F S128x64 .f32) (v309 : FVec F S128x64 .f32) :
    iprop(know V K ∗ owing c (owed1 c) ∗ cpFly (F := F) c 2 ∗ cpDone V c 3 ∗ cpDone V c 4)
      ⊢ iprop(((owing c (owed1 c) ∗ cpDone V c 2 ∗ cpDone V c 3 ∗ cpDone V c 4)
            -∗ Q ⟨k0_pay25 v49 v198 v216 v234 v252 v270 v288 v306 v307 v309 (slab (V c main_v15) 1 6) (slab (V c main_v14) 1 7) (slab (V c main_v15) 1 7), V c main_arg2⟩)
          -∗ wp frame (wpE (defs₀ (F := F)) 𝒱₀ (c : Thread nD τ) none) Set.univ (k0_part10 (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12 v49 v198 v216 v234 v252 v270 v288 v306 v307 v309) Q) := by
  iintro ⟨#HI, HO, H2, H3, H4⟩ Hk
  rw [k0_part10_eq_skeleton]; unfold k0_part10_skel
  simp only [semSignalWord, semWaitWord, Prog.lift, Prog.bind_op, Prog.bind_ret, Prog.pure_eq_ret, wp_deviceId]
  iapply (step_val V c 1 6 rfl) $$ H4; iintro H4
  iapply (step_key V c 1 7 rfl) $$ H3; iintro H3
  iapply (step_val V c 1 7 rfl) $$ H4; iintro H4
  iapply (step_staged V K c 2 rfl rfl) $$ [HO H2]
  · isplitr; · iexact HI
    isplitl [HO] <;> iassumption
  iintro ⟨HO, H2⟩
  iapply (step_wo V c) $$ H2; iintro H2
  rw [wp_ret]
  imodintro
  iapply Hk
  iframe

end Parts

end Cert.KernelIdeal.Run

end
-- ==== Proof.KernelIdeal.BodyB.lean ====
/-
# The body's reduce-scatter and the sending half of its all-gather
-/
module

public import proofs.«01_k».proof.Proof.KernelIdeal.BodyA

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable (V : Dev nD → Valuation τ sig (Elt F)) (K : Dev nD × Kind → ℕ)

/-- Every chunk-sized copy credits the same amount. -/
theorem credit_rs {off : Fin 3 → ℕ} (inb : ∀ a, off a + S1x32x512.size a ≤ S8x32x512.size a) :
    ((rsM.slice (Rect.unit (s := S8x32x512) off S1x32x512.size inb) (fun _ => rfl)).squeeze S32x512 squeezes_S1x32x512_S32x512).view.dmaCredit = N := rfl
theorem credit_ag {off : Fin 3 → ℕ} (inb : ∀ a, off a + S1x32x512.size a ≤ S8x32x512.size a) :
    ((agM.slice (Rect.unit (s := S8x32x512) off S1x32x512.size inb) (fun _ => rfl)).squeeze S32x512 squeezes_S1x32x512_S32x512).view.dmaCredit = N := rfl
theorem credit_sd {off : Fin 2 → ℕ} (inb : ∀ a, off a + S32x512.size a ≤ S256x512.size a) :
    (sdM.slice (Rect.unit (s := S256x512) off S32x512.size inb) (fun _ => rfl)).view.dmaCredit = N := rfl

/-- In hand for the copy to the `k`-th other device, but for what it reads. -/
def sdTok (c : Dev nD) (κS κR : Fin 7 → Kind) (M : Memref sig .tc .vmem S8x32x512 .f32) (k : Fin 7) : sProp 𝕄 :=
  iprop(dutyTok ER (cell c (κS k)) 0 0 ∗ reached ER (cell c (κS k)) 0
    ∗ dutyTok ER (cell (peer c k) (κR k.rev)) 0 0 ∗ reached ER (cell (peer c k) (κR k.rev)) 0
    ∗ ∃ f, mpt (peer c k) (slot M c) fullShare f)

theorem with_sources (c : Dev nD) (κS κR : Fin 7 → Kind) (src : Fin 7 → sProp 𝕄) (M : Memref sig .tc .vmem S8x32x512 .f32) :
    iprop(bigSep Finset.univ (sdTok c κS κR M) ∗ bigSep Finset.univ src) ⊢ bigSep (from_ 0) (sdRes c κS κR src M) := by
  rw [all_ahead]
  refine (Entails.of_eq (BI.bigSep_sep _ _ _).symm).trans (BI.bigSep_mono fun k _ => ?_)
  show iprop(sdTok c κS κR M k ∗ src k) ⊢ sdRes c κS κR src M k
  unfold sdTok sdRes
  iintro ⟨⟨H1, H2, H3, H4, H5⟩, H6⟩
  iframe

/-- The own share and the sent ones, of the partial product. -/
theorem own_chunk (c : Dev nD) :
    (pt c cc0_scratch7 fullShare (Sbuf V c) : sProp 𝕄) = iprop(mpt c (chunk c) fullShare (Sbuf V c) ∗ bigSep Finset.univ (scSrc V c)) := sd_chunks c fullShare (Sbuf V c)

/-- The partial product is stored, the own chunk put in the own slot, and the first chunk sent. -/
theorem part11_run {Q : PUnit → sProp 𝕄} (c : Dev nD) (v2 : BitVec 32) (v344 : FVec F S256x512 .f32) (v347 : Vec F S512x512 .f32) (hS : k0_pay26 v344 v347 = Sbuf V c) :
    iprop(know V K ∗ owing c (owed1 c) ∗ (∃ f, pt c cc0_scratch7 fullShare f) ∗ (∃ f, mpt c (slot rsM c) fullShare f) ∗ bigSep Finset.univ (sdTok (F := F) c .rsS .rsR rsM))
      ⊢ iprop(((scSt V c 1 ∗ mpt c (chunk c) fullShare (Sbuf V c) ∗ mpt c (slot rsM c) fullShare (Rbuf V c)) -∗ Q ⟨⟩)
          -∗ wp frame (wpE (defs₀ (F := F)) 𝒱₀ (c : Thread nD τ) none) Set.univ (k0_part11 (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12 c v2 v344 v347) Q) := by
  iintro ⟨#HI, HO, ⟨%f, Hp⟩, ⟨%g, Hr⟩, Ht⟩ Hk
  rw [k0_part11_eq_skeleton]; unfold k0_part11_skel
  simp only [semSignalWord, semWaitWord, Prog.lift, Prog.bind_op, Prog.bind_ret, Prog.pure_eq_ret, wp_deviceId]
  iapply (wp_load 𝒱₀ (c : Thread nD τ) none Set.univ (m := sdM) (S := Finset.univ) (Finset.subset_univ _)) $$ Hp; iintro Hp
  iapply (wp_store 𝒱₀ (c : Thread nD τ) none Set.univ (m := sdM) (r := Rect.unit (s := S256x512) ![0, 0] S256x512.size inb_S256x512_S256x512_0_0) (S := Finset.univ) (Finset.subset_univ _)) $$ Hp
  iintro Hp
  ihave Hp := (Entails.of_eq (congrArg (fun w => (pt c cc0_scratch7 fullShare w : sProp 𝕄)) ((Memref.write_access_unit_zero_univ (Elt F) cc0_scratch7 zero2 inb_S256x512_S256x512_0_0 f (k0_pay26 v344 v347)).trans hS))) $$ Hp
  iapply (wp_load 𝒱₀ (c : Thread nD τ) none Set.univ (m := sdM) (S := Finset.univ) (Finset.subset_univ _)) $$ Hp; iintro Hp
  iapply (wp_load_rect 𝒱₀ (c : Thread nD τ) none Set.univ (m := rsM) (r := Rect.unit (s := S8x32x512) (k0_off2 c) S1x32x512.size (k0_off2_inb c)) (S := (slot rsM c).view.set)
    (own_set c).subset) $$ Hr
  iintro Hr
  iapply (wp_store 𝒱₀ (c : Thread nD τ) none Set.univ (m := rsM) (r := Rect.unit (s := S8x32x512) (k0_off2 c) S1x32x512.size (k0_off2_inb c)) (S := (slot rsM c).view.set) (own_set c).subset) $$ Hr
  iintro Hr
  ihave Hr := (Entails.of_eq (pointsTo_congr (stored_rs V c g))) $$ Hr
  ihave ⟨Hc, Hp⟩ := (Entails.of_eq (own_chunk V c)) $$ Hp
  ihave Hs := (show iprop(owing c (owed1 c) ∗ bigSep Finset.univ (sdTok (F := F) c .rsS .rsR rsM) ∗ bigSep Finset.univ (scSrc V c)) ⊢ scSt V c 0 from by
    unfold scSt
    iintro ⟨H1, H2⟩
    isplitl [H1]; · iexact H1
    isplitl [H2]; · iapply (with_sources c .rsS .rsR (scSrc V c) rsM) $$ H2
    iapply (none_yet (sdGot (F := F) c .rsS)); iempintro) $$ [HO Ht Hp]
  · iframe
  iapply (step_scatter V K c _ 0 (by decide) (dev_scatter c).1 (chunk_peer c 0) rfl rfl (sem_scatter c 0)) $$ [Hs]
  · isplitr; · iexact HI
    iexact Hs
  iintro Hs
  rw [wp_ret]
  imodintro
  iapply Hk
  iframe

/-- Three more chunks are sent. -/
theorem part12_run {Q : (PUnit) → sProp 𝕄} (c : Dev nD) (v2 : BitVec 32) :
    iprop(know V K ∗ scSt V c 1)
      ⊢ iprop((scSt V c 4 -∗ Q ⟨⟩) -∗ wp frame (wpE (defs₀ (F := F)) 𝒱₀ (c : Thread nD τ) none) Set.univ (k0_part12 (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12 c v2) Q) := by
  iintro ⟨#HI, Hs⟩ Hk
  rw [k0_part12_eq_skeleton]; unfold k0_part12_skel
  simp only [semSignalWord, semWaitWord, Prog.lift, Prog.bind_op, Prog.bind_ret, Prog.pure_eq_ret, wp_deviceId]
  iapply (step_scatter V K c _ 1 (by decide) (dev_scatter c).2.1 (chunk_peer c 1) rfl rfl (sem_scatter c 1)) $$ [Hs]
  · isplitr; · iexact HI
    iexact Hs
  iintro Hs
  iapply (step_scatter V K c _ 2 (by decide) (dev_scatter c).2.2.1 (chunk_peer c 2) rfl rfl (sem_scatter c 2)) $$ [Hs]
  · isplitr; · iexact HI
    iexact Hs
  iintro Hs
  iapply (step_scatter V K c _ 3 (by decide) (dev_scatter c).2.2.2.1 (chunk_peer c 3) rfl rfl (sem_scatter c 3)) $$ [Hs]
  · isplitr; · iexact HI
    iexact Hs
  iintro Hs
  rw [wp_ret]
  imodintro
  iapply Hk
  iframe

/-- The last three chunks are sent. -/
theorem part13_run {Q : (Σ' (v444 : BitVec 32), BitVec 32) → sProp 𝕄} (c : Dev nD) (v2 : BitVec 32) :
    iprop(know V K ∗ scSt V c 4)
      ⊢ iprop((∀ (a b : BitVec 32), scSt V c 7 -∗ Q ⟨a, b⟩) -∗ wp frame (wpE (defs₀ (F := F)) 𝒱₀ (c : Thread nD τ) none) Set.univ (k0_part13 (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12 c v2) Q) := by
  iintro ⟨#HI, Hs⟩ Hk
  rw [k0_part13_eq_skeleton]; unfold k0_part13_skel
  simp only [semSignalWord, semWaitWord, Prog.lift, Prog.bind_op, Prog.bind_ret, Prog.pure_eq_ret, wp_deviceId]
  iapply (step_scatter V K c _ 4 (by decide) (dev_scatter c).2.2.2.2.1 (chunk_peer c 4) rfl rfl (sem_scatter c 4)) $$ [Hs]
  · isplitr; · iexact HI
    iexact Hs
  iintro Hs
  iapply (step_scatter V K c _ 5 (by decide) (dev_scatter c).2.2.2.2.2.1 (chunk_peer c 5) rfl rfl (sem_scatter c 5)) $$ [Hs]
  · isplitr; · iexact HI
    iexact Hs
  iintro Hs
  iapply (step_scatter V K c _ 6 (by decide) (dev_scatter c).2.2.2.2.2.2 (chunk_peer c 6) rfl rfl (sem_scatter c 6)) $$ [Hs]
  · isplitr; · iexact HI
    iexact Hs
  iintro Hs
  rw [wp_ret]
  imodintro
  iapply Hk
  iframe

/-- Three chunks have arrived. -/
theorem part14_run {Q : (PUnit) → sProp 𝕄} (c : Dev nD) (v2 : BitVec 32) (v444 : BitVec 32) (c1_i32_285 : BitVec 32) :
    iprop(know V K ∗ wtSt V c .rsR (due (agTally c) 0) 0)
      ⊢ iprop((wtSt V c .rsR (due (agTally c) 0) 3 -∗ Q ⟨⟩) -∗ wp frame (wpE (defs₀ (F := F)) 𝒱₀ (c : Thread nD τ) none) Set.univ (k0_part14 (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12 c v2 v444 c1_i32_285) Q) := by
  iintro ⟨#HI, Hw⟩ Hk
  rw [k0_part14_eq_skeleton]; unfold k0_part14_skel
  simp only [semSignalWord, semWaitWord, Prog.lift, Prog.bind_op, Prog.bind_ret, Prog.pure_eq_ret, wp_deviceId]
  iapply (step_waits V K c .rsR (fun _ => rfl) (fun _ => rfl) 2 (fun _ => le_rfl) (above_ag (by decide) c 0) 0 (by decide) (sem_arrive c 0) (credit_rs (k0_off7_inb c 0))) $$ [Hw]
  · isplitr; · iexact HI
    iexact Hw
  iintro Hw
  iapply (step_waits V K c .rsR (fun _ => rfl) (fun _ => rfl) 2 (fun _ => le_rfl) (above_ag (by decide) c 0) 1 (by decide) (sem_arrive c 1) (credit_rs (k0_off7_inb c 1))) $$ [Hw]
  · isplitr; · iexact HI
    iexact Hw
  iintro Hw
  iapply (step_waits V K c .rsR (fun _ => rfl) (fun _ => rfl) 2 (fun _ => le_rfl) (above_ag (by decide) c 0) 2 (by decide) (sem_arrive c 2) (credit_rs (k0_off7_inb c 2))) $$ [Hw]
  · isplitr; · iexact HI
    iexact Hw
  iintro Hw
  rw [wp_ret]
  imodintro
  iapply Hk
  iframe

/-- Three more chunks have arrived. -/
theorem part15_run {Q : (PUnit) → sProp 𝕄} (c : Dev nD) (v2 : BitVec 32) :
    iprop(know V K ∗ wtSt V c .rsR (due (agTally c) 0) 3)
      ⊢ iprop((wtSt V c .rsR (due (agTally c) 0) 6 -∗ Q ⟨⟩) -∗ wp frame (wpE (defs₀ (F := F)) 𝒱₀ (c : Thread nD τ) none) Set.univ (k0_part15 (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12 c v2) Q) := by
  iintro ⟨#HI, Hw⟩ Hk
  rw [k0_part15_eq_skeleton]; unfold k0_part15_skel
  simp only [semSignalWord, semWaitWord, Prog.lift, Prog.bind_op, Prog.bind_ret, Prog.pure_eq_ret, wp_deviceId]
  iapply (step_waits V K c .rsR (fun _ => rfl) (fun _ => rfl) 2 (fun _ => le_rfl) (above_ag (by decide) c 0) 3 (by decide) (sem_arrive c 3) (credit_rs (k0_off7_inb c 3))) $$ [Hw]
  · isplitr; · iexact HI
    iexact Hw
  iintro Hw
  iapply (step_waits V K c .rsR (fun _ => rfl) (fun _ => rfl) 2 (fun _ => le_rfl) (above_ag (by decide) c 0) 4 (by decide) (sem_arrive c 4) (credit_rs (k0_off7_inb c 4))) $$ [Hw]
  · isplitr; · iexact HI
    iexact Hw
  iintro Hw
  iapply (step_waits V K c .rsR (fun _ => rfl) (fun _ => rfl) 2 (fun _ => le_rfl) (above_ag (by decide) c 0) 5 (by decide) (sem_arrive c 5) (credit_rs (k0_off7_inb c 5))) $$ [Hw]
  · isplitr; · iexact HI
    iexact Hw
  iintro Hw
  rw [wp_ret]
  imodintro
  iapply Hk
  iframe

/-- Once the waits are done, what they gave. -/
theorem waits_done (c : Dev nD) (κ : Fin 7 → Kind) (O : CellTallies nD τ sig Unit) :
    wtSt V c κ O 7 ⊢ iprop(owing c O ∗ (bigSep Finset.univ fun k => pay V c 0 (κ k)) ∗ bigSep Finset.univ fun k => semVal (cell c (κ k)) 0) := by
  unfold wtSt
  rw [all_served]
  iintro ⟨H1, -, H2⟩
  isplitl [H1]; · iexact H1
  iapply (show bigSep Finset.univ (wtGot V c κ) ⊢ iprop((bigSep Finset.univ fun k => pay V c 0 (κ k)) ∗ bigSep Finset.univ fun k => semVal (cell c (κ k)) 0) from
    Entails.of_eq (BI.bigSep_sep _ (fun k => pay V c 0 (κ k)) (fun k => semVal (cell c (κ k)) 0))) $$ H2

/-- The waits to come. -/
theorem waits_start (c : Dev nD) (κ : Fin 7 → Kind) (O : CellTallies nD τ sig Unit) :
    iprop(owing c O ∗ bigSep Finset.univ (wtRes (F := F) c κ)) ⊢ wtSt V c κ O 0 := by
  unfold wtSt
  rw [all_ahead]
  iintro ⟨H1, H2⟩
  isplitl [H1]; · iexact H1
  isplitl [H2]; · iexact H2
  iapply (none_yet (wtGot V c κ)); iempintro

/-- The last chunk has arrived: the eight are added up, the sum put in the own slot and sent to the first device. -/
theorem part16_run {Q : PUnit → sProp 𝕄} (c : Dev nD) (v2 : BitVec 32) :
    iprop(know V K ∗ wtSt V c .rsR (due (agTally c) 0) 6 ∗ mpt c (slot rsM c) fullShare (Rbuf V c) ∗ (∃ f, mpt c (slot agM c) fullShare f) ∗ bigSep Finset.univ (sdTok (F := F) c .agS .agR agM))
      ⊢ iprop(((gaSt V c 1 ∗ mpt c (slot agM c) kept (Abuf V) ∗ pt c cc0_scratch5 fullShare (Rbuf V c) ∗ bigSep Finset.univ fun k => semVal (cell c (.rsR k)) 0) -∗ Q ⟨⟩)
          -∗ wp frame (wpE (defs₀ (F := F)) 𝒱₀ (c : Thread nD τ) none) Set.univ (k0_part16 (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12 c v2) Q) := by
  iintro ⟨#HI, Hw, Hr, ⟨%g, Ha⟩, Ht⟩ Hk
  rw [k0_part16_eq_skeleton]; unfold k0_part16_skel
  simp only [semSignalWord, semWaitWord, Prog.lift, Prog.bind_op, Prog.bind_ret, Prog.pure_eq_ret, wp_deviceId]
  iapply (step_waits V K c .rsR (fun _ => rfl) (fun _ => rfl) 2 (fun _ => le_rfl) (above_ag (by decide) c 0) 6 (by decide) (sem_arrive c 6) (credit_rs (k0_off7_inb c 6))) $$ [Hw]
  · isplitr; · iexact HI
    iexact Hw
  iintro Hw
  ihave ⟨HO, Hw, Hz⟩ := (waits_done V c .rsR (due (agTally c) 0)) $$ Hw
  ihave Hr := (show iprop(mpt c (slot rsM c) fullShare (Rbuf V c) ∗ (bigSep Finset.univ fun k => pay V c 0 (.rsR k))) ⊢ (pt c cc0_scratch5 fullShare (Rbuf V c) : sProp 𝕄) from
    Entails.of_eq (rs_slots c fullShare (Rbuf V c)).symm) $$ [Hr Hw]
  · iframe
  iapply (wp_load 𝒱₀ (c : Thread nD τ) none Set.univ (m := rsM) (S := Finset.univ) (Finset.subset_univ _)) $$ Hr
  iintro Hr
  rw [show rsM.view.readAt (Elt F) (Rect.unit (s := S8x32x512) ![0, 0, 0] S8x32x512.size inb_S8x32x512_S8x32x512_0_0_0).toLoadRect (Rbuf V c) = Rbuf V c from
    Memref.readAt_unit_zero (Elt F) cc0_scratch5 zero3 _ _]
  iapply (wp_load_rect 𝒱₀ (c : Thread nD τ) none Set.univ (m := agM) (r := Rect.unit (s := S8x32x512) (k0_off2 c) S1x32x512.size (k0_off2_inb c)) (S := (slot agM c).view.set)
    (own_set_ag c).subset) $$ Ha
  iintro Ha
  iapply (wp_store 𝒱₀ (c : Thread nD τ) none Set.univ (m := agM) (r := Rect.unit (s := S8x32x512) (k0_off2 c) S1x32x512.size (k0_off2_inb c)) (S := (slot agM c).view.set) (own_set_ag c).subset) $$ Ha
  iintro Ha
  ihave Ha := (Entails.of_eq (pointsTo_congr (stored_ag V c g))) $$ Ha
  ihave ⟨Ha, Hl⟩ := (ag_shares c c (Abuf V)).1 $$ Ha
  ihave Hs := (show iprop(owing c (due (agTally c) 0) ∗ bigSep Finset.univ (sdTok (F := F) c .agS .agR agM) ∗ bigSep Finset.univ (gaSrc V c)) ⊢ gaSt V c 0 from by
    unfold gaSt
    iintro ⟨H1, H2⟩
    isplitl [H1]; · iexact H1
    isplitl [H2]; · iapply (with_sources c .agS .agR (gaSrc V c) agM) $$ H2
    iapply (none_yet (sdGot (F := F) c .agS)); iempintro) $$ [HO Ht Hl]
  · isplitl [HO]; · iexact HO
    isplitl [Ht]; · iexact Ht
    iexact Hl
  iapply (step_gather V K c _ 0 (by decide) (dev_gather c).1 rfl rfl rfl (sem_gather c 0)) $$ [Hs]
  · isplitr; · iexact HI
    iexact Hs
  iintro Hs
  rw [wp_ret]
  imodintro
  iapply Hk
  iframe

/-- Three more copies of the sum are sent. -/
theorem part17_run {Q : (PUnit) → sProp 𝕄} (c : Dev nD) (v2 : BitVec 32) :
    iprop(know V K ∗ gaSt V c 1)
      ⊢ iprop((gaSt V c 4 -∗ Q ⟨⟩) -∗ wp frame (wpE (defs₀ (F := F)) 𝒱₀ (c : Thread nD τ) none) Set.univ (k0_part17 (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12 c v2) Q) := by
  iintro ⟨#HI, Hs⟩ Hk
  rw [k0_part17_eq_skeleton]; unfold k0_part17_skel
  simp only [semSignalWord, semWaitWord, Prog.lift, Prog.bind_op, Prog.bind_ret, Prog.pure_eq_ret, wp_deviceId]
  iapply (step_gather V K c _ 1 (by decide) (dev_gather c).2.1 rfl rfl rfl (sem_gather c 1)) $$ [Hs]
  · isplitr; · iexact HI
    iexact Hs
  iintro Hs
  iapply (step_gather V K c _ 2 (by decide) (dev_gather c).2.2.1 rfl rfl rfl (sem_gather c 2)) $$ [Hs]
  · isplitr; · iexact HI
    iexact Hs
  iintro Hs
  iapply (step_gather V K c _ 3 (by decide) (dev_gather c).2.2.2.1 rfl rfl rfl (sem_gather c 3)) $$ [Hs]
  · isplitr; · iexact HI
    iexact Hs
  iintro Hs
  rw [wp_ret]
  imodintro
  iapply Hk
  iframe

/-- The last three copies of the sum are sent. -/
theorem part18_run {Q : (Σ' (v597 : BitVec 32), BitVec 32) → sProp 𝕄} (c : Dev nD) (v2 : BitVec 32) :
    iprop(know V K ∗ gaSt V c 4)
      ⊢ iprop((∀ (a b : BitVec 32), gaSt V c 7 -∗ Q ⟨a, b⟩) -∗ wp frame (wpE (defs₀ (F := F)) 𝒱₀ (c : Thread nD τ) none) Set.univ (k0_part18 (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12 c v2) Q) := by
  iintro ⟨#HI, Hs⟩ Hk
  rw [k0_part18_eq_skeleton]; unfold k0_part18_skel
  simp only [semSignalWord, semWaitWord, Prog.lift, Prog.bind_op, Prog.bind_ret, Prog.pure_eq_ret, wp_deviceId]
  iapply (step_gather V K c _ 4 (by decide) (dev_gather c).2.2.2.2.1 rfl rfl rfl (sem_gather c 4)) $$ [Hs]
  · isplitr; · iexact HI
    iexact Hs
  iintro Hs
  iapply (step_gather V K c _ 5 (by decide) (dev_gather c).2.2.2.2.2.1 rfl rfl rfl (sem_gather c 5)) $$ [Hs]
  · isplitr; · iexact HI
    iexact Hs
  iintro Hs
  iapply (step_gather V K c _ 6 (by decide) (dev_gather c).2.2.2.2.2.2 rfl rfl rfl (sem_gather c 6)) $$ [Hs]
  · isplitr; · iexact HI
    iexact Hs
  iintro Hs
  rw [wp_ret]
  imodintro
  iapply Hk
  iframe

end Parts

end Cert.KernelIdeal.Run

end
-- ==== Proof.KernelIdeal.BodyC.lean ====
/-
# The body's receiving half of the all-gather, the result, and the waits for what was sent
-/
module

public import proofs.«01_k».proof.Proof.KernelIdeal.BodyB

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable (V : Dev nD → Valuation τ sig (Elt F)) (K : Dev nD × Kind → ℕ)

/-- Three sums have arrived. -/
theorem part19_run {Q : (Σ' (v627 : BitVec 32), BitVec 32) → sProp 𝕄} (c : Dev nD) (v2 : BitVec 32) (v597 : BitVec 32) (c1_i32_417 : BitVec 32) :
    iprop(know V K ∗ wtSt V c .agR 0 0)
      ⊢ iprop((∀ (a b : BitVec 32), wtSt V c .agR 0 3 -∗ Q ⟨a, b⟩) -∗ wp frame (wpE (defs₀ (F := F)) 𝒱₀ (c : Thread nD τ) none) Set.univ (k0_part19 (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12 c v2 v597 c1_i32_417) Q) := by
  iintro ⟨#HI, Hw⟩ Hk
  rw [k0_part19_eq_skeleton]; unfold k0_part19_skel
  simp only [semSignalWord, semWaitWord, Prog.lift, Prog.bind_op, Prog.bind_ret, Prog.pure_eq_ret, wp_deviceId]
  iapply (step_waits V K c .agR (fun _ => rfl) (fun _ => rfl) 3 (fun _ => le_rfl) (Above.zero 3) 0 (by decide) (sem_arrive' c 0) (credit_ag (k0_off7_inb c 0))) $$ [Hw]
  · isplitr; · iexact HI
    iexact Hw
  iintro Hw
  iapply (step_waits V K c .agR (fun _ => rfl) (fun _ => rfl) 3 (fun _ => le_rfl) (Above.zero 3) 1 (by decide) (sem_arrive' c 1) (credit_ag (k0_off7_inb c 1))) $$ [Hw]
  · isplitr; · iexact HI
    iexact Hw
  iintro Hw
  iapply (step_waits V K c .agR (fun _ => rfl) (fun _ => rfl) 3 (fun _ => le_rfl) (Above.zero 3) 2 (by decide) (sem_arrive' c 2) (credit_ag (k0_off7_inb c 2))) $$ [Hw]
  · isplitr; · iexact HI
    iexact Hw
  iintro Hw
  rw [wp_ret]
  imodintro
  iapply Hk
  iframe

/-- Three more sums have arrived. -/
theorem part20_run {Q : (Σ' (v657 : BitVec 32), BitVec 32) → sProp 𝕄} (c : Dev nD) (v2 : BitVec 32) (v627 : BitVec 32) (c1_i32_444 : BitVec 32) :
    iprop(know V K ∗ wtSt V c .agR 0 3)
      ⊢ iprop((∀ (a b : BitVec 32), wtSt V c .agR 0 6 -∗ Q ⟨a, b⟩) -∗ wp frame (wpE (defs₀ (F := F)) 𝒱₀ (c : Thread nD τ) none) Set.univ (k0_part20 (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12 c v2 v627 c1_i32_444) Q) := by
  iintro ⟨#HI, Hw⟩ Hk
  rw [k0_part20_eq_skeleton]; unfold k0_part20_skel
  simp only [semSignalWord, semWaitWord, Prog.lift, Prog.bind_op, Prog.bind_ret, Prog.pure_eq_ret, wp_deviceId]
  iapply (step_waits V K c .agR (fun _ => rfl) (fun _ => rfl) 3 (fun _ => le_rfl) (Above.zero 3) 3 (by decide) (sem_arrive' c 3) (credit_ag (k0_off7_inb c 3))) $$ [Hw]
  · isplitr; · iexact HI
    iexact Hw
  iintro Hw
  iapply (step_waits V K c .agR (fun _ => rfl) (fun _ => rfl) 3 (fun _ => le_rfl) (Above.zero 3) 4 (by decide) (sem_arrive' c 4) (credit_ag (k0_off7_inb c 4))) $$ [Hw]
  · isplitr; · iexact HI
    iexact Hw
  iintro Hw
  iapply (step_waits V K c .agR (fun _ => rfl) (fun _ => rfl) 3 (fun _ => le_rfl) (Above.zero 3) 5 (by decide) (sem_arrive' c 5) (credit_ag (k0_off7_inb c 5))) $$ [Hw]
  · isplitr; · iexact HI
    iexact Hw
  iintro Hw
  rw [wp_ret]
  imodintro
  iapply Hk
  iframe

/-- The shares of the received sums that the final load does not need. -/
def spare (c : Dev nD) : sProp 𝕄 := bigSep Finset.univ fun k : Fin 7 => bigSep Finset.univ fun j : Fin 7 => mpt c (slot agM (peer c k)) (lent j) (Abuf V)

theorem apart (Φ Ψ : Fin 7 → sProp 𝕄) :
    (bigSep Finset.univ fun k => iprop(Φ k ∗ Ψ k)) = iprop((bigSep Finset.univ fun k => Φ k) ∗ bigSep Finset.univ fun k => Ψ k) := BI.bigSep_sep _ Φ Ψ

/-- The received sums and the kept share of the own one make the whole buffer at the kept share. -/
theorem gathered (c : Dev nD) :
    iprop(mpt c (slot agM c) kept (Abuf V) ∗ bigSep Finset.univ fun k => pay V c 0 (.agR k)) ⊢ iprop(pt c cc0_scratch6 kept (Abuf V) ∗ spare V c) := by
  rw [ag_slots c kept (Abuf V)]
  unfold spare
  iintro ⟨H1, H2⟩
  ihave H2 := (show (bigSep Finset.univ fun k => pay V c 0 (.agR k))
      ⊢ iprop((bigSep Finset.univ fun k => mpt c (slot agM (peer c k)) kept (Abuf V))
        ∗ bigSep Finset.univ fun k => bigSep Finset.univ fun j : Fin 7 => mpt c (slot agM (peer c k)) (lent j) (Abuf V)) from
    (BI.bigSep_mono fun k _ => (ag_shares c (peer c k) (Abuf V)).1).trans (Entails.of_eq (apart _ _))) $$ H2
  icases H2 with ⟨H2, H3⟩
  iframe

/-- With the lent shares back, the whole buffer. -/
theorem regathered (c : Dev nD) :
    iprop(pt c cc0_scratch6 kept (Abuf V) ∗ spare V c ∗ bigSep Finset.univ fun k => pay V c 0 (.agS k)) ⊢ (pt c cc0_scratch6 fullShare (Abuf V) : sProp 𝕄) := by
  rw [ag_slots c kept (Abuf V), ag_slots c fullShare (Abuf V)]
  unfold spare
  iintro ⟨⟨H1, H2⟩, H3, H4⟩
  isplitl [H1 H4]
  · iapply (ag_shares c c (Abuf V)).2
    isplitl [H1]; · iexact H1
    iexact H4
  iapply ((Entails.of_eq (apart (fun k => mpt c (slot agM (peer c k)) kept (Abuf V))
    (fun k => bigSep Finset.univ fun j : Fin 7 => mpt c (slot agM (peer c k)) (lent j) (Abuf V))).symm).trans (BI.bigSep_mono fun k _ => (ag_shares c (peer c k) (Abuf V)).2))
  isplitl [H2] <;> iassumption

/-- The last sum has arrived: the result is stored, and the first of the sent chunks' buffers come back. -/
theorem part21_run {Q : PUnit → sProp 𝕄} (c : Dev nD) (v657 w : BitVec 32) :
    iprop(know V K ∗ wtSt V c .agR 0 6 ∗ mpt c (slot agM c) kept (Abuf V) ∗ (∃ f, pt c cc0_stg0_0 fullShare f) ∗ bigSep Finset.univ (wtRes (F := F) c .rsS))
      ⊢ iprop(((wtSt V c .rsS 0 3 ∗ pt c cc0_scratch6 kept (Abuf V) ∗ spare V c ∗ pt c cc0_stg0_0 fullShare (Out V) ∗ bigSep Finset.univ fun k => semVal (cell c (.agR k)) 0) -∗ Q ⟨⟩)
          -∗ wp frame (wpE (defs₀ (F := F)) 𝒱₀ (c : Thread nD τ) none) Set.univ (k0_part21 (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12 c v657 w) Q) := by
  iintro ⟨#HI, Hw, Ha, ⟨%g, Ho⟩, Ht⟩ Hk
  rw [k0_part21_eq_skeleton]; unfold k0_part21_skel
  simp only [semSignalWord, semWaitWord, Prog.lift, Prog.bind_op, Prog.bind_ret, Prog.pure_eq_ret, wp_deviceId]
  iapply (step_waits V K c .agR (fun _ => rfl) (fun _ => rfl) 3 (fun _ => le_rfl) (Above.zero 3) 6 (by decide) (sem_arrive' c 6) (credit_ag (k0_off7_inb c 6))) $$ [Hw]
  · isplitr; · iexact HI
    iexact Hw
  iintro Hw
  ihave ⟨HO, Hw, Hz⟩ := (waits_done V c .agR 0) $$ Hw
  ihave ⟨Ha, Hx⟩ := (gathered V c) $$ [Ha Hw]
  · isplitl [Ha] <;> iassumption
  iapply (wp_load 𝒱₀ (c : Thread nD τ) none Set.univ (m := agM) (S := Finset.univ) (Finset.subset_univ _)) $$ Ha
  iintro Ha
  rw [show agM.view.readAt (Elt F) (Rect.unit (s := S8x32x512) ![0, 0, 0] S8x32x512.size inb_S8x32x512_S8x32x512_0_0_0).toLoadRect (Abuf V) = Abuf V from
    Memref.readAt_unit_zero (Elt F) cc0_scratch6 zero3 _ _]
  iapply (wp_load 𝒱₀ (c : Thread nD τ) none Set.univ (m := outM) (S := Finset.univ) (Finset.subset_univ _)) $$ Ho
  iintro Ho
  iapply (wp_store 𝒱₀ (c : Thread nD τ) none Set.univ (m := outM) (r := Rect.unit (s := S2x128x512) ![0, 0, 0] S2x128x512.size inb_S2x128x512_S2x128x512_0_0_0) (S := Finset.univ) (Finset.subset_univ _)) $$ Ho
  iintro Ho
  ihave Ho := (Entails.of_eq (congrArg (fun w => (pt c cc0_stg0_0 fullShare w : sProp 𝕄)) (Memref.write_access_unit_zero_univ (Elt F) cc0_stg0_0 zero3 inb_S2x128x512_S2x128x512_0_0_0 g (k0_pay29 (Abuf V))))) $$ Ho
  ihave Hw := (waits_start V c .rsS 0) $$ [HO Ht]
  · isplitl [HO] <;> iassumption
  iapply (step_waits V K c .rsS (fun _ => rfl) (fun _ => rfl) 0 (fun _ => le_rfl) (Above.zero 0) 0 (by decide) (rfl) (credit_sd (k0_off5_inb c 0))) $$ [Hw]
  · isplitr; · iexact HI
    iexact Hw
  iintro Hw
  iapply (step_waits V K c .rsS (fun _ => rfl) (fun _ => rfl) 0 (fun _ => le_rfl) (Above.zero 0) 1 (by decide) (rfl) (credit_sd (k0_off5_inb c 1))) $$ [Hw]
  · isplitr; · iexact HI
    iexact Hw
  iintro Hw
  iapply (step_waits V K c .rsS (fun _ => rfl) (fun _ => rfl) 0 (fun _ => le_rfl) (Above.zero 0) 2 (by decide) (rfl) (credit_sd (k0_off5_inb c 2))) $$ [Hw]
  · isplitr; · iexact HI
    iexact Hw
  iintro Hw
  rw [wp_ret]
  imodintro
  iapply Hk
  isplitl [Hw]; · iexact Hw
  isplitl [Ha]; · iexact Ha
  isplitl [Hx]; · iexact Hx
  isplitl [Ho]; · iexact Ho
  iexact Hz

/-- All sent chunks have left, and the first copy of the sum. -/
theorem part22_run {Q : PUnit → sProp 𝕄} (c : Dev nD) :
    iprop(know V K ∗ wtSt V c .rsS 0 3 ∗ bigSep Finset.univ (wtRes (F := F) c .agS))
      ⊢ iprop(((wtSt V c .agS 0 1 ∗ (bigSep Finset.univ fun k => pay V c 0 (.rsS k)) ∗ bigSep Finset.univ fun k => semVal (cell c (.rsS k)) 0) -∗ Q ⟨⟩)
          -∗ wp frame (wpE (defs₀ (F := F)) 𝒱₀ (c : Thread nD τ) none) Set.univ (k0_part22 (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12 c) Q) := by
  iintro ⟨#HI, Hw, Ht⟩ Hk
  rw [k0_part22_eq_skeleton]; unfold k0_part22_skel
  simp only [semSignalWord, semWaitWord, Prog.lift, Prog.bind_op, Prog.bind_ret, Prog.pure_eq_ret, wp_deviceId]
  iapply (step_waits V K c .rsS (fun _ => rfl) (fun _ => rfl) 0 (fun _ => le_rfl) (Above.zero 0) 3 (by decide) (rfl) (credit_sd (k0_off5_inb c 3))) $$ [Hw]
  · isplitr; · iexact HI
    iexact Hw
  iintro Hw
  iapply (step_waits V K c .rsS (fun _ => rfl) (fun _ => rfl) 0 (fun _ => le_rfl) (Above.zero 0) 4 (by decide) (rfl) (credit_sd (k0_off5_inb c 4))) $$ [Hw]
  · isplitr; · iexact HI
    iexact Hw
  iintro Hw
  iapply (step_waits V K c .rsS (fun _ => rfl) (fun _ => rfl) 0 (fun _ => le_rfl) (Above.zero 0) 5 (by decide) (rfl) (credit_sd (k0_off5_inb c 5))) $$ [Hw]
  · isplitr; · iexact HI
    iexact Hw
  iintro Hw
  iapply (step_waits V K c .rsS (fun _ => rfl) (fun _ => rfl) 0 (fun _ => le_rfl) (Above.zero 0) 6 (by decide) (rfl) (credit_sd (k0_off5_inb c 6))) $$ [Hw]
  · isplitr; · iexact HI
    iexact Hw
  iintro Hw
  ihave ⟨HO, Hp, Hz⟩ := (waits_done V c .rsS 0) $$ Hw
  ihave Hw := (waits_start V c .agS 0) $$ [HO Ht]
  · isplitl [HO] <;> iassumption
  iapply (step_waits V K c .agS (fun _ => rfl) (fun _ => rfl) 0 (fun _ => le_rfl) (Above.zero 0) 0 (by decide) (rfl) (credit_ag (k0_off4_inb c))) $$ [Hw]
  · isplitr; · iexact HI
    iexact Hw
  iintro Hw
  rw [wp_ret]
  imodintro
  iapply Hk
  isplitl [Hw]; · iexact Hw
  isplitl [Hp]; · iexact Hp
  iexact Hz

/-- Five more copies of the sum have left. -/
theorem part23_run {Q : (PUnit) → sProp 𝕄} (c : Dev nD)  :
    iprop(know V K ∗ wtSt V c .agS 0 1)
      ⊢ iprop((wtSt V c .agS 0 6 -∗ Q ⟨⟩) -∗ wp frame (wpE (defs₀ (F := F)) 𝒱₀ (c : Thread nD τ) none) Set.univ (k0_part23 (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12 c ) Q) := by
  iintro ⟨#HI, Hw⟩ Hk
  rw [k0_part23_eq_skeleton]; unfold k0_part23_skel
  simp only [semSignalWord, semWaitWord, Prog.lift, Prog.bind_op, Prog.bind_ret, Prog.pure_eq_ret, wp_deviceId]
  iapply (step_waits V K c .agS (fun _ => rfl) (fun _ => rfl) 0 (fun _ => le_rfl) (Above.zero 0) 1 (by decide) (rfl) (credit_ag (k0_off4_inb c))) $$ [Hw]
  · isplitr; · iexact HI
    iexact Hw
  iintro Hw
  iapply (step_waits V K c .agS (fun _ => rfl) (fun _ => rfl) 0 (fun _ => le_rfl) (Above.zero 0) 2 (by decide) (rfl) (credit_ag (k0_off4_inb c))) $$ [Hw]
  · isplitr; · iexact HI
    iexact Hw
  iintro Hw
  iapply (step_waits V K c .agS (fun _ => rfl) (fun _ => rfl) 0 (fun _ => le_rfl) (Above.zero 0) 3 (by decide) (rfl) (credit_ag (k0_off4_inb c))) $$ [Hw]
  · isplitr; · iexact HI
    iexact Hw
  iintro Hw
  iapply (step_waits V K c .agS (fun _ => rfl) (fun _ => rfl) 0 (fun _ => le_rfl) (Above.zero 0) 4 (by decide) (rfl) (credit_ag (k0_off4_inb c))) $$ [Hw]
  · isplitr; · iexact HI
    iexact Hw
  iintro Hw
  iapply (step_waits V K c .agS (fun _ => rfl) (fun _ => rfl) 0 (fun _ => le_rfl) (Above.zero 0) 5 (by decide) (rfl) (credit_ag (k0_off4_inb c))) $$ [Hw]
  · isplitr; · iexact HI
    iexact Hw
  iintro Hw
  rw [wp_ret]
  imodintro
  iapply Hk
  iframe

end Parts

end Cert.KernelIdeal.Run

end
-- ==== Proof.KernelIdeal.Body.lean ====
/-
# The whole body: the phases one after another
-/
module

public import proofs.«01_k».proof.Proof.KernelIdeal.BodyC

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body

variable (V : Dev nD → Valuation τ sig (Elt F)) (K : Dev nD × Kind → ℕ)

/-- What device `c` hands over at the barrier of its `k`-th other device, as `c` holds it. -/
def mine (c : Dev nD) (k : Fin 7) : sProp 𝕄 :=
  iprop((∃ f, mpt c (slot rsM (peer c k)) fullShare f) ∗ (∃ f, mpt c (slot agM (peer c k)) fullShare f)
    ∗ reached ER (cell c (.rsR k)) 0 ∗ reached ER (cell c (.agR k)) 0)

theorem mine_eq (c : Dev nD) (k : Fin 7) : mine (F := F) c k = barPay (peer c k) k.rev := by
  unfold mine barPay
  rw [peer_rev, Fin.rev_rev]

/-- In hand for the signal to the `k`-th other device, but for what is handed over. -/
def sigTok (c : Dev nD) (k : Fin 7) : sProp 𝕄 := iprop(dutyTok ER (cell (peer c k) .bar) 0 k.rev ∗ reached ER (cell (peer c k) .bar) 0)

/-- In hand for the copy to the `k`-th other device, but for what that device hands over. -/
def halfTok (c : Dev nD) (κS κR : Fin 7 → Kind) (k : Fin 7) : sProp 𝕄 :=
  iprop(dutyTok ER (cell c (κS k)) 0 0 ∗ reached ER (cell c (κS k)) 0 ∗ dutyTok ER (cell (peer c k) (κR k.rev)) 0 0)

/-- Both receive buffers' slots of the other devices, to be handed over. -/
def slots (c : Dev nD) : sProp 𝕄 :=
  bigSep Finset.univ fun k => iprop((∃ f, mpt c (slot rsM (peer c k)) fullShare f) ∗ (∃ f, mpt c (slot agM (peer c k)) fullShare f))

theorem slots_of (c : Dev nD) :
    iprop((∃ f, pt c cc0_scratch5 fullShare f) ∗ (∃ f, pt c cc0_scratch6 fullShare f))
      ⊢ iprop((∃ f, mpt c (slot rsM c) fullShare f) ∗ (∃ f, mpt c (slot agM c) fullShare f) ∗ slots (F := F) c) := by
  iintro ⟨⟨%f, H5⟩, ⟨%g, H6⟩⟩
  ihave ⟨H5, H5'⟩ := (Entails.of_eq (rs_slots c fullShare f)) $$ H5
  ihave ⟨H6, H6'⟩ := (Entails.of_eq (ag_slots c fullShare g)) $$ H6
  isplitl [H5]; · iexists f; iexact H5
  isplitl [H6]; · iexists g; iexact H6
  unfold slots
  iapply (show iprop((bigSep Finset.univ fun k => mpt c (slot rsM (peer c k)) fullShare f) ∗ bigSep Finset.univ fun k => mpt c (slot agM (peer c k)) fullShare g)
      ⊢ bigSep Finset.univ fun k => iprop((∃ f, mpt c (slot rsM (peer c k)) fullShare f) ∗ (∃ f, mpt c (slot agM (peer c k)) fullShare f)) from
    (Entails.of_eq (apart _ _).symm).trans (BI.bigSep_mono fun k _ => by
      show iprop(mpt c (slot rsM (peer c k)) fullShare f ∗ mpt c (slot agM (peer c k)) fullShare g) ⊢ _
      iintro ⟨H1, H2⟩
      isplitl [H1]; · iexists f; iexact H1
      iexists g; iexact H2))
  isplitl [H5'] <;> iassumption

theorem signals (c : Dev nD) :
    iprop(bigSep Finset.univ (sigTok (F := F) c) ∗ slots (F := F) c
        ∗ bigSep Finset.univ (fun k => iprop(reached ER (cell c (.rsR k)) 0 ∗ reached ER (cell c (.agR k)) 0)))
      ⊢ bigSep (from_ 0) (sigRes (F := F) c) := by
  rw [all_ahead]
  unfold slots
  refine (sep_mono_right (Entails.of_eq (apart _ _).symm)).trans ((Entails.of_eq (apart _ _).symm).trans (BI.bigSep_mono fun k _ => ?_))
  show iprop(sigTok (F := F) c k ∗ ((∃ f, mpt c (slot rsM (peer c k)) fullShare f) ∗ (∃ f, mpt c (slot agM (peer c k)) fullShare f))
    ∗ (reached ER (cell c (.rsR k)) 0 ∗ reached ER (cell c (.agR k)) 0)) ⊢ sigRes (F := F) c k
  unfold sigRes sigTok
  rw [← mine_eq]
  unfold mine
  iintro ⟨⟨H1, H2⟩, ⟨H3, H4⟩, H5, H6⟩
  iframe

/-- After the barrier the copies' tokens are complete. -/
theorem tokens (c : Dev nD) :
    iprop(bigSep Finset.univ (barPay (F := F) c) ∗ bigSep Finset.univ (halfTok (F := F) c .rsS .rsR) ∗ bigSep Finset.univ (halfTok (F := F) c .agS .agR))
      ⊢ iprop(bigSep Finset.univ (sdTok (F := F) c .rsS .rsR rsM) ∗ bigSep Finset.univ (sdTok (F := F) c .agS .agR agM)) := by
  refine (sep_mono_right (Entails.of_eq (apart _ _).symm)).trans ((Entails.of_eq (apart _ _).symm).trans
    ((BI.bigSep_mono fun k _ => ?_).trans (Entails.of_eq (apart _ _))))
  show iprop(barPay (F := F) c k ∗ (halfTok (F := F) c .rsS .rsR k ∗ halfTok (F := F) c .agS .agR k))
    ⊢ iprop(sdTok (F := F) c .rsS .rsR rsM k ∗ sdTok (F := F) c .agS .agR agM k)
  unfold barPay halfTok sdTok
  iintro ⟨⟨H1, H2, H3, H4⟩, ⟨H5, H6, H7⟩, H8, H9, H10⟩
  iframe

/-- The rights to wait for what was sent. -/
theorem waits_of_sent (c : Dev nD) (κ : Fin 7 → Kind) :
    iprop(bigSep (upto 7) (sdGot (F := F) c κ) ∗ bigSep Finset.univ (fun k => atPos ER (cell c (κ k)) 0 ∅ 0)) ⊢ bigSep Finset.univ (wtRes (F := F) c κ) := by
  rw [all_served]
  exact Entails.of_eq (apart _ _).symm

/-- The five staged operands. -/
def operands (c : Dev nD) : sProp 𝕄 :=
  iprop(pt c main_arg0 fullShare (V c main_arg0) ∗ pt c main_arg1 fullShare (V c main_arg1) ∗ pt c main_arg2 fullShare (V c main_arg2)
    ∗ pt c main_v14 fullShare (V c main_v14) ∗ pt c main_v15 fullShare (V c main_v15))

/-- The eight scratch buffers, at contents not chosen. -/
def scratch (c : Dev nD) : sProp 𝕄 :=
  iprop((∃ f, pt c cc0_scratch0 fullShare f) ∗ (∃ f, pt c cc0_scratch1 fullShare f) ∗ (∃ f, pt c cc0_scratch2 fullShare f)
    ∗ (∃ f, pt c cc0_scratch3 fullShare f) ∗ (∃ f, pt c cc0_scratch4 fullShare f) ∗ (∃ f, pt c cc0_scratch5 fullShare f)
    ∗ (∃ f, pt c cc0_scratch6 fullShare f) ∗ (∃ f, pt c cc0_scratch7 fullShare f))

/-- The protocol's ghost state of device `c` as the body enters, beside what every device knows. -/
def ghost (c : Dev nD) : sProp 𝕄 :=
  iprop((cpRes (F := F) c 0 ∗ cpRes (F := F) c 1 ∗ cpRes (F := F) c 2 ∗ cpRes (F := F) c 3 ∗ cpRes (F := F) c 4)
    ∗ (cred (tallyAt (cell c .bar) () 7) ∗ atPos ER (cell c .bar) 0 ∅ 0)
    ∗ bigSep Finset.univ (sigTok (F := F) c)
    ∗ bigSep Finset.univ (fun k => iprop(reached ER (cell c (.rsR k)) 0 ∗ reached ER (cell c (.agR k)) 0))
    ∗ bigSep Finset.univ (halfTok (F := F) c .rsS .rsR) ∗ bigSep Finset.univ (halfTok (F := F) c .agS .agR)
    ∗ bigSep Finset.univ (wtRes (F := F) c .rsR) ∗ bigSep Finset.univ (wtRes (F := F) c .agR)
    ∗ bigSep Finset.univ (fun k => atPos ER (cell c (.rsS k)) 0 ∅ 0) ∗ bigSep Finset.univ (fun k => atPos ER (cell c (.agS k)) 0 ∅ 0))

/-- Every counter the body used, at zero. -/
def zeros (c : Dev nD) : sProp 𝕄 :=
  iprop((semVal (cell c (.cp 0)) 0 ∗ semVal (cell c (.cp 1)) 0 ∗ semVal (cell c (.cp 2)) 0 ∗ semVal (cell c (.cp 3)) 0 ∗ semVal (cell c (.cp 4)) 0)
    ∗ (bigSep Finset.univ fun k => semVal (cell c (.rsS k)) 0) ∗ (bigSep Finset.univ fun k => semVal (cell c (.rsR k)) 0)
    ∗ (bigSep Finset.univ fun k => semVal (cell c (.agS k)) 0) ∗ (bigSep Finset.univ fun k => semVal (cell c (.agR k)) 0))

def bodyPre (c : Dev nD) : sProp 𝕄 :=
  iprop(owing c (O₀ c) ∗ ghost (F := F) c ∗ operands V c ∗ scratch (F := F) c ∗ ∃ f, pt c cc0_stg0_0 fullShare f)

def bodyPost (c : Dev nD) : sProp 𝕄 :=
  iprop(owing c 0 ∗ semVal (cell c .bar) 0 ∗ zeros (F := F) c ∗ operands V c ∗ scratch (F := F) c ∗ pt c cc0_stg0_0 fullShare (Out V))

/-- The whole body. -/
theorem body_run {Q : PUnit → sProp 𝕄} (c : Dev nD) :
    iprop(know V K ∗ bodyPre V c) ⊢ iprop((bodyPost V c -∗ Q ⟨⟩) -∗ wp frame (wpE (defs₀ (F := F)) 𝒱₀ (c : Thread nD τ) none) Set.univ (cc0_body (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12) Q) := by
  rw [cc0_body_eq_skeleton]; unfold cc0_body_skel
  unfold bodyPre ghost scratch
  iintro ⟨#HI, HO, ⟨Hcp, ⟨Hcb, Hab⟩, Hsig, Hre, Hhr, Hha, Hwr, Hwa, Hpr, Hpa⟩, Hop, ⟨S0, S1, S2, S3, S4, S5, S6, S7⟩, Hst⟩ Hk
  ihave ⟨Hrs, Hag, Hsl⟩ := (slots_of c) $$ [S5 S6]
  · isplitl [S5] <;> iassumption
  ihave Hs := (show iprop(owing c (O₀ c) ∗ (bigSep Finset.univ (sigTok (F := F) c) ∗ slots (F := F) c
        ∗ bigSep Finset.univ (fun k => iprop(reached ER (cell c (.rsR k)) 0 ∗ reached ER (cell c (.agR k)) 0)))) ⊢ sigSt c 0 from sep_mono_right (signals c)) $$ [HO Hsig Hsl Hre]
  · iframe
  unfold operands
  rw [wp_bind]
  iapply (part1_run V K c ) $$ [Hs Hcp Hop S0 S1 S2 S3 S4]
  · isplitr; · iexact HI
    iframe
  iintro %v2 %v26 %w ⟨Hs, F0, F1, F2, F3, F4⟩
  dsimp only
  rw [wp_bind]
  iapply (part2_run V K c v2 v26 w) $$ [Hs Hcb Hab F0 F1]
  · isplitr; · iexact HI
    iframe
  iintro ⟨HO, Hb0, Hbp, D0, D1⟩
  ihave ⟨Htr, Hta⟩ := (tokens c) $$ [Hbp Hhr Hha]
  · iframe
  rw [wp_bind]
  iapply (part3_run V K c _) $$ [HO F3 F4]
  · isplitr; · iexact HI
    iframe
  iintro ⟨HO, D3, D4⟩
  dsimp only
  rw [wp_bind]
  iapply (part4_run V c _ _ _ _) $$ [D3 D4]
  · iframe
  iintro ⟨D3, D4⟩
  dsimp only
  rw [wp_bind]
  iapply (part5_run V c _ _ _) $$ [D3 D4]
  · iframe
  iintro ⟨D3, D4⟩
  dsimp only
  rw [wp_bind]
  iapply (part6_run V c _ _ _ _ _ _ _) $$ [D3 D4]
  · iframe
  iintro ⟨D3, D4⟩
  dsimp only
  rw [wp_bind]
  iapply (part7_run V c _ _) $$ [D3 D4]
  · iframe
  iintro ⟨D3, D4⟩
  dsimp only
  rw [wp_bind]
  iapply (part8_run V c _ _) $$ [D3 D4]
  · iframe
  iintro ⟨D3, D4⟩
  dsimp only
  rw [wp_bind]
  iapply (part9_run V c _ _ _) $$ [D3 D4]
  · iframe
  iintro ⟨D3, D4⟩
  dsimp only
  rw [wp_bind]
  iapply (part10_run V K c _ _ _ _ _ _ _ _ _ _) $$ [HO F2 D3 D4]
  · isplitr; · iexact HI
    iframe
  iintro ⟨HO, D2, D3, D4⟩
  dsimp only
  rw [wp_bind]
  iapply (part11_run V K c _ _ _ rfl) $$ [HO S7 Hrs Htr]
  · isplitr; · iexact HI
    iframe
  iintro ⟨Hs, Hch, Hrs⟩
  rw [wp_bind]
  iapply (part12_run V K c _) $$ [Hs]
  · isplitr; · iexact HI
    iexact Hs
  iintro Hs
  rw [wp_bind]
  iapply (part13_run V K c _) $$ [Hs]
  · isplitr; · iexact HI
    iexact Hs
  iintro %a13 %b13 Hs
  dsimp only
  unfold scSt
  rw [due_end, add_zero]
  icases Hs with ⟨HO, -, Hg⟩
  ihave Hsr := (waits_of_sent c .rsS) $$ [Hg Hpr]
  · isplitl [Hg] <;> iassumption
  ihave Hs := (waits_start V c .rsR (due (agTally c) 0)) $$ [HO Hwr]
  · isplitl [HO] <;> iassumption
  rw [wp_bind]
  iapply (part14_run V K c _ _ _) $$ [Hs]
  · isplitr; · iexact HI
    iexact Hs
  iintro Hs
  rw [wp_bind]
  iapply (part15_run V K c _) $$ [Hs]
  · isplitr; · iexact HI
    iexact Hs
  iintro Hs
  rw [wp_bind]
  iapply (part16_run V K c _) $$ [Hs Hrs Hag Hta]
  · isplitr; · iexact HI
    iframe
  iintro ⟨Hs, Hag, H5, Z1⟩
  rw [wp_bind]
  iapply (part17_run V K c _) $$ [Hs]
  · isplitr; · iexact HI
    iexact Hs
  iintro Hs
  rw [wp_bind]
  iapply (part18_run V K c _) $$ [Hs]
  · isplitr; · iexact HI
    iexact Hs
  iintro %a18 %b18 Hs
  dsimp only
  unfold gaSt
  rw [due_end]
  icases Hs with ⟨HO, -, Hg⟩
  ihave Hsa := (waits_of_sent c .agS) $$ [Hg Hpa]
  · isplitl [Hg] <;> iassumption
  ihave Hs := (waits_start V c .agR 0) $$ [HO Hwa]
  · isplitl [HO] <;> iassumption
  rw [wp_bind]
  iapply (part19_run V K c _ _ _) $$ [Hs]
  · isplitr; · iexact HI
    iexact Hs
  iintro %a19 %b19 Hs
  dsimp only
  rw [wp_bind]
  iapply (part20_run V K c _ _ _) $$ [Hs]
  · isplitr; · iexact HI
    iexact Hs
  iintro %a20 %b20 Hs
  dsimp only
  rw [wp_bind]
  iapply (part21_run V K c _ _) $$ [Hs Hag Hst Hsr]
  · isplitr; · iexact HI
    iframe
  iintro ⟨Hs, Hag, Hsp, Hst, Z3⟩
  rw [wp_bind]
  iapply (part22_run V K c ) $$ [Hs Hsa]
  · isplitr; · iexact HI
    iframe
  iintro ⟨Hs, Hpr, Z0⟩
  rw [wp_bind]
  iapply (part23_run V K c ) $$ [Hs]
  · isplitr; · iexact HI
    iexact Hs
  iintro Hs
  simp only [Prog.lift, Prog.bind_op, Prog.bind_ret, Prog.pure_eq_ret]
  iapply (step_waits V K c .agS (fun _ => rfl) (fun _ => rfl) 0 (fun _ => le_rfl) (Above.zero 0) 6 (by decide) (rfl) (credit_ag (k0_off4_inb c))) $$ [Hs]
  · isplitr; · iexact HI
    iexact Hs
  iintro Hs
  ihave ⟨HO, Hpa, Z2⟩ := (waits_done V c .agS 0) $$ Hs
  ihave H6 := (regathered V c) $$ [Hag Hsp Hpa]
  · iframe
  ihave H7 := (Entails.of_eq (own_chunk V c).symm) $$ [Hch Hpr]
  · isplitl [Hch]; · iexact Hch
    iexact Hpr
  rw [wp_ret]
  imodintro
  iapply Hk
  unfold bodyPost zeros operands scratch cpDone cpPay
  icases D0 with ⟨⟨B0, A0⟩, Y0⟩
  icases D1 with ⟨⟨B1, A1⟩, Y1⟩
  icases D2 with ⟨⟨B2, A2⟩, Y2⟩
  icases D3 with ⟨⟨B3, A3⟩, Y3⟩
  icases D4 with ⟨⟨B4, A4⟩, Y4⟩
  isplitl [HO]; · iexact HO
  isplitl [Hb0]; · iexact Hb0
  isplitl [Y0 Y1 Y2 Y3 Y4 Z0 Z1 Z2 Z3]; · iframe
  isplitl [A0 A1 A2 A3 A4]; · iframe
  isplitr [Hst]
  · isplitl [B0]; · iexists _; iexact B0
    isplitl [B1]; · iexists _; iexact B1
    isplitl [B2]; · iexists _; iexact B2
    isplitl [B3]; · iexists _; iexact B3
    isplitl [B4]; · iexists _; iexact B4
    isplitl [H5]; · iexists _; iexact H5
    isplitl [H6]; · iexists _; iexact H6
    iexists _; iexact H7
  iexact Hst

end Body

end Cert.KernelIdeal.Run

end
-- ==== Proof.KernelIdeal.Deal.lean ====
/-
# What the launch deals to the devices: the tokens each pays with and the credit each waits with
-/
module

public import proofs.«01_k».proof.Proof.KernelIdeal.Body

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The kinds of scoped cells, and the tokens of all cells -/

/-- The kinds other than the barrier's, family by family. -/
abbrev Own := Fin 5 ⊕ Fin 7 ⊕ Fin 7 ⊕ Fin 7 ⊕ Fin 7

def kindAt : Own → Kind
  | .inl i => .cp i
  | .inr (.inl k) => .rsS k
  | .inr (.inr (.inl k)) => .rsR k
  | .inr (.inr (.inr (.inl k))) => .agS k
  | .inr (.inr (.inr (.inr k))) => .agR k

theorem kindAt_inj : Function.Injective kindAt := by decide +kernel
theorem kindAt_ne_bar (x : Own) : kindAt x ≠ .bar := by revert x; decide
theorem kind_cases (κ : Kind) : κ = .bar ∨ ∃ x, κ = kindAt x := by
  cases κ with
  | bar => exact .inl rfl
  | cp i => exact .inr ⟨.inl i, rfl⟩
  | rsS k => exact .inr ⟨.inr (.inl k), rfl⟩
  | rsR k => exact .inr ⟨.inr (.inr (.inl k)), rfl⟩
  | agS k => exact .inr ⟨.inr (.inr (.inr (.inl k))), rfl⟩
  | agR k => exact .inr ⟨.inr (.inr (.inr (.inr k))), rfl⟩

/-- A family over the scoped kinds, family by family. -/
theorem bigSep_own (Φ : Kind → sProp 𝕄) : (bigSep Finset.univ fun x : Own => Φ (kindAt x))
    = iprop((bigSep Finset.univ fun i => Φ (.cp i)) ∗ (bigSep Finset.univ fun k => Φ (.rsS k)) ∗ (bigSep Finset.univ fun k => Φ (.rsR k))
        ∗ (bigSep Finset.univ fun k => Φ (.agS k)) ∗ (bigSep Finset.univ fun k => Φ (.agR k))) := by
  rw [bigSep_univ_sum, bigSep_univ_sum, bigSep_univ_sum, bigSep_univ_sum]; rfl

/-- A family over the five staging copies, one by one. -/
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

def barEmb : Dev nD ↪ GSem nD τ sig := ⟨fun c => cell c .bar, fun _ _ h => (cell_inj h).1⟩
def ownEmb : Dev nD × Own ↪ GSem nD τ sig :=
  ⟨fun p => cell p.1 (kindAt p.2), fun _ _ h => Prod.ext (cell_inj h).1 (kindAt_inj (cell_inj h).2)⟩

/-- The cells live from the start, and the ones that wait for the region to open them. -/
abbrev barCells : Finset (GSem nD τ sig) := Finset.univ.map barEmb
abbrev ownCells : Finset (GSem nD τ sig) := Finset.univ.map ownEmb

theorem cells_disjoint : Disjoint barCells ownCells := by
  rw [Finset.disjoint_left]
  rintro g h h'
  obtain ⟨c, -, rfl⟩ := Finset.mem_map.mp h
  obtain ⟨p, -, h⟩ := Finset.mem_map.mp h'
  exact kindAt_ne_bar p.2 (cell_inj h).2

theorem cell_mem (c : Dev nD) (κ : Kind) : cell c κ ∈ barCells ∪ ownCells := by
  rcases kind_cases κ with rfl | ⟨x, rfl⟩
  · exact Finset.mem_union_left _ (Finset.mem_map_of_mem barEmb (Finset.mem_univ c))
  · exact Finset.mem_union_right _ (Finset.mem_map_of_mem ownEmb (Finset.mem_univ (c, x)))

/-- The payments of one device's cells: seven at the barrier, one anywhere else. -/
def payAt : Fin 7 ⊕ Own → Kind × Fin 7
  | .inl d => (.bar, d)
  | .inr x => (kindAt x, 0)
theorem payAt_inj : Function.Injective payAt := by
  rintro (a | a) (b | b) h
  · exact congrArg _ (congrArg Prod.snd h)
  · exact absurd (congrArg Prod.fst h).symm (kindAt_ne_bar b)
  · exact absurd (congrArg Prod.fst h) (kindAt_ne_bar a)
  · exact congrArg _ (kindAt_inj (congrArg Prod.fst h))

def allToks : Finset (GSem nD τ sig × ℕ × Fin 7) :=
  Finset.univ.map ⟨fun p : Dev nD × (Fin 7 ⊕ Own) => (cell p.1 (payAt p.2).1, 0, (payAt p.2).2), fun p q h => by
    have h1 := cell_inj (congrArg Prod.fst h)
    exact Prod.ext h1.1 (payAt_inj (Prod.ext h1.2 (congrArg (fun t : GSem nD τ sig × ℕ × Fin 7 => t.2.2) h)))⟩

/-! ## Every token to the device that pays with it -/

/-- From a device's other device, back by the reversed index. -/
def turn : Dev nD × Fin 7 ≃ Dev nD × Fin 7 :=
  ⟨fun p => (peer p.1 p.2, p.2.rev), fun p => (peer p.1 p.2, p.2.rev),
    fun p => Prod.ext (peer_rev p.1 p.2) (Fin.rev_rev p.2), fun p => Prod.ext (peer_rev p.1 p.2) (Fin.rev_rev p.2)⟩

theorem turned (Φ : Dev nD → Fin 7 → sProp 𝕄) :
    (bigSep Finset.univ fun c => bigSep Finset.univ (Φ c)) = bigSep Finset.univ fun c => bigSep Finset.univ fun k => Φ (peer c k) k.rev :=
  (bigSep_univ_prod fun p : Dev nD × Fin 7 => Φ p.1 p.2).symm.trans
    ((bigSep_univ_equiv turn fun p : Dev nD × Fin 7 => Φ p.1 p.2).trans (bigSep_univ_prod fun p : Dev nD × Fin 7 => Φ (peer p.1 p.2) p.2.rev))

/-- The tokens device `c` pays with. -/
def dealt (c : Dev nD) : sProp 𝕄 :=
  iprop((bigSep Finset.univ fun k => dutyTok ER (cell (peer c k) .bar) 0 k.rev)
    ∗ (bigSep Finset.univ fun i => dutyTok ER (cell c (.cp i)) 0 0)
    ∗ (bigSep Finset.univ fun k => dutyTok ER (cell c (.rsS k)) 0 0)
    ∗ (bigSep Finset.univ fun k => dutyTok ER (cell (peer c k) (.rsR k.rev)) 0 0)
    ∗ (bigSep Finset.univ fun k => dutyTok ER (cell c (.agS k)) 0 0)
    ∗ (bigSep Finset.univ fun k => dutyTok ER (cell (peer c k) (.agR k.rev)) 0 0))

theorem toks_dealt : (bigSep allToks fun x => (dutyTok ER x.1 x.2.1 x.2.2 : sProp 𝕄)) = bigSep Finset.univ (dealt (F := F)) := by
  unfold allToks
  rw [bigSep_map, bigSep_univ_prod]
  have h : ∀ c : Dev nD, (bigSep Finset.univ fun y : Fin 7 ⊕ Own => (dutyTok ER (cell c (payAt y).1) 0 (payAt y).2 : sProp 𝕄))
      = iprop((bigSep Finset.univ fun k => dutyTok ER (cell c .bar) 0 k)
        ∗ (bigSep Finset.univ fun i => dutyTok ER (cell c (.cp i)) 0 0)
        ∗ (bigSep Finset.univ fun k => dutyTok ER (cell c (.rsS k)) 0 0)
        ∗ (bigSep Finset.univ fun k => dutyTok ER (cell c (.rsR k)) 0 0)
        ∗ (bigSep Finset.univ fun k => dutyTok ER (cell c (.agS k)) 0 0)
        ∗ (bigSep Finset.univ fun k => dutyTok ER (cell c (.agR k)) 0 0)) := fun c => by
    rw [bigSep_univ_sum]
    exact congrArg₂ _ rfl (bigSep_own fun κ => dutyTok ER (cell c κ) 0 0)
  refine (bigSep_congr fun c _ => h c).trans ?_
  unfold dealt
  rw [bigSep_sep', bigSep_sep', bigSep_sep', bigSep_sep', bigSep_sep', bigSep_sep', bigSep_sep', bigSep_sep', bigSep_sep', bigSep_sep',
    turned fun c k => dutyTok ER (cell c .bar) 0 k, turned fun c k => dutyTok ER (cell c (.rsR k)) 0 0,
    turned fun c k => dutyTok ER (cell c (.agR k)) 0 0]

/-! ## The credit a launch hands out -/

/-- Summed over the devices, what is owed at a cell through one of the three families of dues. -/
theorem owed_family (f : Fin 7 → Kind) (x : ℕ) (c : Dev nD) (κ : Kind) :
    ∑ d, (due (fun k => tallyAt (cell (peer d k) (f k.rev)) () x) 0) (cell c κ) () = ∑ k, if f k = κ then x else 0 := by
  have h0 : ∀ T : Fin 7 → CellTallies nD τ sig Unit, due T 0 (cell c κ) () = ∑ k, T k (cell c κ) () := fun T => by
    unfold due
    rw [show from_ 0 = Finset.univ by decide, Finset.sum_apply, Finsupp.finset_sum_apply]
  have h1 : ∀ (d : Dev nD) (k : Fin 7), (tallyAt (cell d (f k)) () x : CellTallies nD τ sig Unit) (cell c κ) () = if d = c then (if f k = κ then x else 0) else 0 := fun d k => by
    rw [tallyAt_apply]
    by_cases hd : d = c
    · subst hd
      rw [if_pos rfl]
      by_cases hk : f k = κ
      · rw [if_pos ⟨by rw [hk], rfl⟩, if_pos hk]
      · rw [if_neg (fun h => hk (cell_inj h.1).2.symm), if_neg hk]
    · rw [if_neg (fun h => hd (cell_inj h.1).1.symm), if_neg hd]
  calc ∑ d, (due (fun k => tallyAt (cell (peer d k) (f k.rev)) () x) 0) (cell c κ) ()
      = ∑ d, ∑ k, (tallyAt (cell (peer d k) (f k.rev)) () x : CellTallies nD τ sig Unit) (cell c κ) () := Finset.sum_congr rfl fun d _ => h0 _
    _ = ∑ p : Dev nD × Fin 7, (tallyAt (cell (turn p).1 (f (turn p).2)) () x : CellTallies nD τ sig Unit) (cell c κ) () :=
        (Fintype.sum_prod_type fun p : Dev nD × Fin 7 => (tallyAt (cell (turn p).1 (f (turn p).2)) () x : CellTallies nD τ sig Unit) (cell c κ) ()).symm
    _ = ∑ p : Dev nD × Fin 7, (tallyAt (cell p.1 (f p.2)) () x : CellTallies nD τ sig Unit) (cell c κ) () :=
        Equiv.sum_comp turn fun p : Dev nD × Fin 7 => (tallyAt (cell p.1 (f p.2)) () x : CellTallies nD τ sig Unit) (cell c κ) ()
    _ = ∑ d : Dev nD, ∑ k : Fin 7, if d = c then (if f k = κ then x else 0) else 0 := by
        rw [Fintype.sum_prod_type]; exact Finset.sum_congr rfl fun d _ => Finset.sum_congr rfl fun k _ => h1 d k
    _ = ∑ k, if f k = κ then x else 0 := by
        rw [Finset.sum_eq_single c]
        · exact Finset.sum_congr rfl fun k _ => if_pos rfl
        · intro d _ hd; exact Finset.sum_eq_zero fun k _ => if_neg hd
        · intro h; exact absurd (Finset.mem_univ c) h

/-- All that is owed at a cell. -/
theorem owed_cell (c : Dev nD) (κ : Kind) :
    ∑ d, O₀ d (cell c κ) () = (∑ k, if Kind.agR k = κ then N else 0) + (∑ k, if Kind.rsR k = κ then N else 0) + ∑ k : Fin 7, if Kind.bar = κ then 1 else 0 := by
  rw [← owed_family .agR N c κ, ← owed_family .rsR N c κ, ← owed_family (fun _ => .bar) 1 c κ, ← Finset.sum_add_distrib, ← Finset.sum_add_distrib]
  rfl

theorem owed_bar (c : Dev nD) : ∑ d, O₀ d (cell c .bar) () = 7 := by rw [owed_cell]; simp
theorem owed_rsR (c : Dev nD) (k : Fin 7) : ∑ d, O₀ d (cell c (.rsR k)) () = N := by rw [owed_cell]; simp
theorem owed_agR (c : Dev nD) (k : Fin 7) : ∑ d, O₀ d (cell c (.agR k)) () = N := by rw [owed_cell]; simp

theorem credit_cell (c : Dev nD) (κ : Kind) (n : ℕ) (h : ∑ d, O₀ d (cell c κ) () = n) :
    tallyOn (cell c κ) (launchCredit (Pipeline.owing O₀) 0 (cell c κ)) = (tallyAt (cell c κ) () n : CellTallies nD τ sig Unit) := by
  unfold tallyAt
  refine congrArg _ (Finsupp.ext fun u => ?_)
  cases u
  rw [Pipeline.launchCredit_owing, Finsupp.single_eq_same, h]

/-- The credit device `c` waits with. -/
def creds (c : Dev nD) : sProp 𝕄 :=
  iprop(cred (tallyAt (cell c .bar) () 7) ∗ (bigSep Finset.univ fun k => cred (tallyAt (cell c (.rsR k)) () N))
    ∗ (bigSep Finset.univ fun k => cred (tallyAt (cell c (.agR k)) () N)))

/-- The kinds waited on with launch credit. -/
def heardAt : Unit ⊕ Fin 7 ⊕ Fin 7 → Kind
  | .inl _ => .bar
  | .inr (.inl k) => .rsR k
  | .inr (.inr k) => .agR k
theorem heardAt_inj : Function.Injective heardAt := by decide +kernel

theorem creds_intro (c : Dev nD) : (Pipeline.launchCred O₀ c : sProp 𝕄) ⊢ creds (F := F) c := by
  unfold Pipeline.launchCred
  let e : (Unit ⊕ Fin 7 ⊕ Fin 7) ↪ SemLoc sig := ⟨fun y => semOf c (heardAt y), fun y z h => heardAt_inj (cell_inj (c := c) (d := c) (κ := heardAt y) (κ' := heardAt z) (Prod.ext rfl h)).2⟩
  have h : (bigSep (Finset.univ.map e) fun sm : SemLoc sig =>
      (cred (tallyOn ((c : Thread nD τ), sm) (launchCredit (Pipeline.owing O₀) 0 ((c : Thread nD τ), sm))) : sProp 𝕄)) = creds (F := F) c := by
    rw [bigSep_map, bigSep_univ_sum, bigSep_univ_sum]
    unfold creds
    refine congrArg₂ _ ?_ (congrArg₂ _ ?_ ?_)
    · rw [show (Finset.univ : Finset Unit) = {()} from rfl, bigSep_singleton]
      exact congrArg _ (credit_cell c .bar 7 (owed_bar c))
    · exact bigSep_congr fun k _ => congrArg _ (credit_cell c (.rsR k) N (owed_rsR c k))
    · exact bigSep_congr fun k _ => congrArg _ (credit_cell c (.agR k) N (owed_agR c k))
  rw [← h]
  exact bigSep_subset (Finset.subset_univ _)

end Cert.KernelIdeal.Run

end
-- ==== Proof.KernelIdeal.Region.lean ====
/-
# The region: its cells opened, its one body run, its result array
-/
module

public import proofs.«01_k».proof.Proof.KernelIdeal.Deal
public import proofs.«01_k».proof.Proof.Gen.KernelIdeal.Points

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (V : Dev nD → Valuation τ sig (Elt F))

/-! ## The region's own semaphores -/

/-- Every transfer semaphore but the output staging's. -/
def osem (k : Fin 37) : SemLoc sig := .dma (⟨k.val + 1, by have := k.isLt; show _ < 38; omega⟩ : Fin 38)
theorem osem_facts : Pipeline.OwnSemFacts spec0 osem := by decide +kernel

/-- Which of them serves a kind of cell. -/
def semIx (c : Dev nD) (x : Own) : Fin 37 :=
  match semOf c (kindAt x) with
  | .dma i => if h : i.val - 1 < 37 then ⟨i.val - 1, h⟩ else 0
  | .reg _ => 0
theorem osem_semIx (c : Dev nD) (x : Own) : osem (semIx c x) = semOf c (kindAt x) := by revert c x; decide +kernel
def semEmb (c : Dev nD) : Own ↪ Fin 37 :=
  ⟨semIx c, fun x y h => kindAt_inj (cell_inj (c := c) (d := c) (κ := kindAt x) (κ' := kindAt y)
    (Prod.ext rfl (by show semOf c (kindAt x) = semOf c (kindAt y); rw [← osem_semIx, ← osem_semIx, show semIx c x = semIx c y from h]))).2⟩

/-- The counters of the four semaphores device `c` never uses. -/
def idle (c : Dev nD) : sProp 𝕄 :=
  bigSep (Finset.univ \ Finset.univ.map (semEmb c)) fun k : Fin 37 => semVal ((c : Thread nD τ), osem k) 0

theorem ownSems_split (c : Dev nD) : (Pipeline.ownSems0 (Ix := Unit) (Name := ℕ) (U := UU) (Lvl := ℕ) (Val := Elt F) (τ := τ) osem c : sProp 𝕄)
    = iprop((bigSep Finset.univ fun x : Own => semVal (cell c (kindAt x)) 0) ∗ idle (F := F) c) := by
  have h : (bigSep (Finset.univ : Finset (Fin 37)) fun k => (semVal ((c : Thread nD τ), osem k) 0 : sProp 𝕄))
      = iprop((bigSep (Finset.univ.map (semEmb c)) fun k => semVal ((c : Thread nD τ), osem k) 0) ∗ idle (F := F) c) := by
    conv_lhs => rw [← Finset.union_sdiff_of_subset (Finset.subset_univ (Finset.univ.map (semEmb c)))]
    exact bigSep_union Finset.disjoint_sdiff
  refine Eq.trans h (congrArg (fun X : sProp 𝕄 => iprop(X ∗ idle (F := F) c)) ?_)
  rw [bigSep_map]
  exact bigSep_congr fun x _ => by
    show (semVal ((c : Thread nD τ), osem (semIx c x)) 0 : sProp 𝕄) = _
    rw [osem_semIx]

theorem zeros_eq (c : Dev nD) : zeros (F := F) c = bigSep Finset.univ fun x : Own => semVal (cell c (kindAt x)) 0 := by
  rw [bigSep_own fun κ => semVal (cell c κ) 0, bigSep_five]; rfl

/-! ## Entering: the dormant cells are opened and the protocol's resources put together -/

def invs (K : Dev nD × Kind → ℕ) : sProp 𝕄 := bigSep (Finset.univ : Finset (Dev nD × Kind)) fun p => cellInv ER (Rd V) (K p) (cell p.1 p.2)
instance invs_persistent (K : Dev nD × Kind → ℕ) : BI.Persistent (invs V K) := by unfold invs; infer_instance
theorem invs_at (K : Dev nD × Kind → ℕ) (p : Dev nD × Kind) : invs V K ⊢ cellInv ER (Rd V) (K p) (cell p.1 p.2) := by
  unfold invs; exact bigSep_elim (Finset.mem_univ p)

def bars : sProp 𝕄 := bigSep (Finset.univ : Finset (Dev nD)) fun d => reached ER (cell d .bar) 0
instance bars_persistent : BI.Persistent (bars (F := F)) := by unfold bars; infer_instance
theorem bars_at (d : Dev nD) : bars (F := F) ⊢ reached ER (cell d .bar) 0 := by unfold bars; exact bigSep_elim (Finset.mem_univ d)

/-- What device `c` alone holds at the launch. -/
def linear (c : Dev nD) : sProp 𝕄 :=
  iprop(atPos ER (cell c .bar) 0 ∅ 0 ∗ (bigSep Finset.univ fun x : Own => openTok ER (cell c (kindAt x))) ∗ dealt (F := F) c)

/-- Handed to the region on device `c`, and what it leaves. -/
def Tk (c : Dev nD) : sProp 𝕄 := iprop((∃ K, invs V K ∗ bars (F := F) ∗ linear (F := F) c) ∗ creds (F := F) c)
def Xk (c : Dev nD) : sProp 𝕄 := iprop((∃ K, know V K ∗ ghost (F := F) c) ∗ idle (F := F) c)
def Yk (c : Dev nD) : sProp 𝕄 := semVal (cell c .bar) 0

theorem opened (K : Dev nD × Kind → ℕ) (c : Dev nD) :
    iprop(invs V K ∗ (bigSep Finset.univ fun x : Own => openTok ER (cell c (kindAt x))) ∗ (bigSep Finset.univ fun x : Own => semVal (cell c (kindAt x)) 0))
      ⊢ (|={Set.univ}=> iprop((bigSep Finset.univ fun x : Own => atPos ER (cell c (kindAt x)) 0 ∅ 0) ∗ (bigSep Finset.univ fun x : Own => reached ER (cell c (kindAt x)) 0)) : sProp 𝕄) := by
  rw [← bigSep_sep', ← bigSep_sep']
  refine (bigSep_with_persistent (R := invs V K)
    (Ψ := fun x => iprop(|={Set.univ}=> (atPos ER (cell c (kindAt x)) 0 ∅ 0 ∗ reached ER (cell c (kindAt x)) 0))) fun x _ => ?_).trans (bigSep_fupd _ _)
  show iprop(invs V K ∗ openTok ER (cell c (kindAt x)) ∗ semVal (cell c (kindAt x)) 0) ⊢ _
  iintro ⟨HI, Ho, Hs⟩
  ihave Hi := (invs_at V K (c, kindAt x)) $$ HI
  iapply (Rounds.cell_open ER (Rd V) (g := cell c (kindAt x)) (Set.mem_univ (K (c, kindAt x))))
  isplitl [Hi]; · iexact Hi
  isplitl [Ho] <;> iassumption

theorem signals_ready (c : Dev nD) :
    iprop(bars (F := F) ∗ bigSep Finset.univ fun k => dutyTok ER (cell (peer c k) .bar) 0 k.rev) ⊢ bigSep Finset.univ (sigTok (F := F) c) :=
  bigSep_with_persistent fun k _ => by
    unfold sigTok
    iintro ⟨HR, Ht⟩
    isplitl [Ht]; · iexact Ht
    iapply (bars_at (F := F) (peer c k)) $$ HR

theorem half_ready (c : Dev nD) (κS κR : Fin 7 → Kind) :
    iprop((bigSep Finset.univ fun k => dutyTok ER (cell c (κS k)) 0 0) ∗ (bigSep Finset.univ fun k => reached ER (cell c (κS k)) 0)
      ∗ (bigSep Finset.univ fun k => dutyTok ER (cell (peer c k) (κR k.rev)) 0 0)) ⊢ bigSep Finset.univ (halfTok (F := F) c κS κR) := by
  rw [← bigSep_sep', ← bigSep_sep']
  exact BI.Entails.refl _
theorem wait_ready (c : Dev nD) (κ : Fin 7 → Kind) :
    iprop((bigSep Finset.univ fun k => cred (tallyAt (cell c (κ k)) () N)) ∗ (bigSep Finset.univ fun k => atPos ER (cell c (κ k)) 0 ∅ 0))
      ⊢ bigSep Finset.univ (wtRes (F := F) c κ) := by
  rw [← bigSep_sep']
  exact BI.Entails.refl _
theorem copies_ready (c : Dev nD) :
    iprop((bigSep Finset.univ fun i => dutyTok ER (cell c (.cp i)) 0 0) ∗ (bigSep Finset.univ fun i => reached ER (cell c (.cp i)) 0)
      ∗ (bigSep Finset.univ fun i => atPos ER (cell c (.cp i)) 0 ∅ 0))
      ⊢ iprop(cpRes (F := F) c 0 ∗ cpRes (F := F) c 1 ∗ cpRes (F := F) c 2 ∗ cpRes (F := F) c 3 ∗ cpRes (F := F) c 4) := by
  rw [← bigSep_sep', ← bigSep_sep', ← bigSep_five (cpRes (F := F) c)]
  exact BI.Entails.refl _
theorem arrivals_ready (c : Dev nD) :
    iprop((bigSep Finset.univ fun k => reached ER (cell c (.rsR k)) 0) ∗ (bigSep Finset.univ fun k => reached ER (cell c (.agR k)) 0))
      ⊢ (bigSep Finset.univ (fun k => iprop(reached ER (cell c (.rsR k)) 0 ∗ reached ER (cell c (.agR k)) 0)) : sProp 𝕄) := by
  rw [← bigSep_sep']

theorem hopen (c : Dev nD) : iprop(Tk V c ∗ Pipeline.ownSems0 osem c ∗ levAts L lv) ⊢ (|={Set.univ}=> Xk V c : sProp 𝕄) := by
  rw [ownSems_split]
  unfold Tk Xk linear dealt creds
  iintro ⟨⟨⟨%K, #HI, #HR, Hab, Ho, Tb, Tc, Ts, Tr, Us, Ur⟩, Cb, Cr, Ca⟩, ⟨Hs, Hsp⟩, #Hl⟩
  imod (opened V K c) $$ [Ho Hs] with ⟨Hat, Hre⟩
  · isplitr; · iexact HI
    isplitl [Ho] <;> iassumption
  imodintro
  isplitr [Hsp]
  · iexists K
    isplitr
    · unfold know invs
      isplitr; · iexact HI
      iexact Hl
    ihave ⟨Ac, As, Ar, Bs, Br⟩ := (Entails.of_eq (bigSep_own fun κ => (atPos ER (cell c κ) 0 ∅ 0 : sProp 𝕄))) $$ Hat
    ihave ⟨Rc, Rs, #Rr, Qs, #Qr⟩ := (Entails.of_eq (bigSep_own fun κ => (reached ER (cell c κ) 0 : sProp 𝕄))) $$ Hre
    unfold ghost
    isplitl [Tc Rc Ac]
    · iapply (copies_ready (F := F) c)
      isplitl [Tc]; · iexact Tc
      isplitl [Rc] <;> iassumption
    isplitl [Cb Hab]
    · isplitl [Cb] <;> iassumption
    isplitl [Tb]
    · iapply (signals_ready (F := F) c)
      isplitr; · iexact HR
      iexact Tb
    isplitr
    · iapply (arrivals_ready (F := F) c)
      isplitr; · iexact Rr
      iexact Qr
    isplitl [Ts Rs Tr]
    · iapply (half_ready (F := F) c .rsS .rsR)
      isplitl [Ts]; · iexact Ts
      isplitl [Rs] <;> iassumption
    isplitl [Us Qs Ur]
    · iapply (half_ready (F := F) c .agS .agR)
      isplitl [Us]; · iexact Us
      isplitl [Qs] <;> iassumption
    isplitl [Cr Ar]
    · iapply (wait_ready (F := F) c .rsR)
      isplitl [Cr] <;> iassumption
    isplitl [Ca Br]
    · iapply (wait_ready (F := F) c .agR)
      isplitl [Ca] <;> iassumption
    isplitl [As] <;> iassumption
  · iexact Hsp

/-! ## The region's data and its one body -/

/-- Before and after the body. -/
def before (c : Dev nD) : sProp 𝕄 := iprop(Xk V c ∗ operands V c ∗ scratch (F := F) c ∗ ∃ r, prngReg c r)
def afterward (c : Dev nD) : sProp 𝕄 :=
  iprop(Yk (F := F) c ∗ zeros (F := F) c ∗ idle (F := F) c ∗ operands V c ∗ scratch (F := F) c ∗ ∃ r, prngReg c r)

def datOf (c : Dev nD) : Dat τ (Elt F) Unit ℕ UU ℕ cfg0 c where
  A w := V c (Proc.devRef .tc (Pipeline.arrRef spec0 w))
  after w _ := match w with
    | ⟨0, _⟩ => Out V
  Φ t := if t.val = 0 then before V c else afterward V c
  q _ := fullShare
  owed t := if t.val = 0 then O₀ c else 0

def datsOf : (p : Fin 1) → (c : Dev nD) → Dat τ (Elt F) Unit ℕ UU ℕ (cfgs p) c
  | 0 => datOf V

theorem owed_first (c : Dev nD) : (datOf V c).owed t0_0.castSucc = O₀ c := by
  show (if (t0_0.castSucc : Fin (cfg0.N + 1)).val = 0 then O₀ c else 0) = O₀ c; exact if_pos rfl
theorem owed_last (c : Dev nD) : (datOf V c).owed (Fin.last _) = 0 := by
  show (if (Fin.last cfg0.N).val = 0 then O₀ c else 0) = 0
  rw [Fin.val_last, if_neg (by rw [show cfg0.N = 1 from N_0]; decide)]
theorem inv_first (c : Dev nD) : (datOf V c).Φ t0_0.castSucc = before V c := by
  show (if (t0_0.castSucc : Fin (cfg0.N + 1)).val = 0 then before V c else afterward V c) = _; exact if_pos rfl
theorem inv_last (c : Dev nD) : (datOf V c).Φ t0_0.succ = afterward V c := by
  show (if (t0_0.succ : Fin (cfg0.N + 1)).val = 0 then before V c else afterward V c) = _; exact if_neg (by decide)

theorem owesAt_of (c : Dev nD) (t : Fin (cfg0.N + 1)) (O : CellTallies nD τ sig Unit) (h : (datOf V c).owed t = O) :
    owing c O ⊢ ((datOf V c).owesAt () t : sProp 𝕄) := by
  unfold owing Dat.owesAt Pipeline.owesWithin Dat.bound
  rw [h, show (datOf V c).recorded t = Set.univ from rfl]
  iintro ⟨%W, HO⟩
  iexists W
  isplitr; · ipureintro; exact fun _ _ => Or.inl trivial
  iexact HO
theorem of_owesAt (c : Dev nD) (t : Fin (cfg0.N + 1)) (O : CellTallies nD τ sig Unit) (h : (datOf V c).owed t = O) :
    ((datOf V c).owesAt () t : sProp 𝕄) ⊢ owing c O := by
  unfold owing Dat.owesAt Pipeline.owesWithin
  rw [h]
  iintro ⟨%W, -, HO⟩
  iexists W; iexact HO

theorem owns_whole (c : Dev nD) (b : Ref sig .tc) (X : b.ty.Idx → Elt F b.ty.elt) :
    (owns (c : Thread nD τ) (Memref.whole b) fullShare X : sProp 𝕄) = iprop(∃ f, ⌜f = X⌝ ∗ (c : Thread nD τ).loc b ↦{fullShare} f) := by
  unfold owns; simp only [Memref.view_whole, View.read_whole, View.set_whole]

set_option maxRecDepth 30000 in
theorem obligation (c : Dev nD) : BodyObligation (datOf V c) (defs₀ (F := F)) 𝒱₀ () Set.univ := fun t => by
  obtain rfl := fin_N0 t
  rw [bigSep_W0, bigSep_W0, inv_first, inv_last]
  show iprop(before V c ∗ (datOf V c).owesAt () t0_0.castSucc ∗ ∃ d, owns (c : Thread nD τ) (Memref.whole cc0_stg0_0) fullShare ((datOf V c).before (0 : Fin 1) t0_0 d))
    ⊢ wp frame (wpE (defs₀ (F := F)) 𝒱₀ (c : Thread nD τ) none) Set.univ (cc0_body (Memref.whole main_arg0) (Memref.isWhole_whole _) (Memref.whole main_arg1) (Memref.isWhole_whole _) (Memref.whole main_arg2) (Memref.isWhole_whole _) (Memref.whole main_v14) (Memref.isWhole_whole _) (Memref.whole main_v15) (Memref.isWhole_whole _) outM (Memref.isWhole_whole _) xM (Memref.isWhole_whole _) wqM (Memref.isWhole_whole _) woM (Memref.isWhole_whole _) kM (Memref.isWhole_whole _) vM (Memref.isWhole_whole _) rsM (Memref.isWhole_whole _) agM (Memref.isWhole_whole _) sdM (Memref.isWhole_whole _) cc0_scratch8 cc0_scratch9 cc0_scratch10 cc0_scratch11 cc0_scratch12)
      fun _ => iprop(afterward V c ∗ (datOf V c).owesAt () t0_0.succ ∗ owns (c : Thread nD τ) (Memref.whole cc0_stg0_0) fullShare (Out V))
  simp only [owns_whole]
  unfold before Xk
  iintro ⟨⟨⟨⟨%K, #HK, Hg⟩, Hsp⟩, Hop, Hsc, Hp⟩, HO, ⟨%d, %f, -, Hst⟩⟩
  ihave HO := (of_owesAt V c t0_0.castSucc (O₀ c) (owed_first V c)) $$ HO
  iapply (body_run V K c) $$ [HO Hg Hop Hsc Hst]
  · isplitr; · iexact HK
    unfold bodyPre
    isplitl [HO]; · iexact HO
    isplitl [Hg]; · iexact Hg
    isplitl [Hop]; · iexact Hop
    isplitl [Hsc]; · iexact Hsc
    iexists f; iexact Hst
  unfold bodyPost afterward Yk
  iintro ⟨HO, Hb, Hz, Hop, Hsc, Hst⟩
  isplitr [HO Hst]
  · isplitl [Hb]; · iexact Hb
    isplitl [Hz]; · iexact Hz
    isplitl [Hsp]; · iexact Hsp
    isplitl [Hop]; · iexact Hop
    isplitl [Hsc] <;> iassumption
  isplitl [HO]
  · iapply (owesAt_of V c t0_0.succ 0 (owed_last V c)) $$ HO
  iexists (Out V)
  isplitr; · ipureintro; rfl
  iexact Hst

/-- What the region leaves in the result array. -/
theorem result_eq (c : Dev nD) : (datOf V c).arrAt (0 : Fin 1) cfg0.N = Out V := by
  have h : (win0_0.blk t0_0).view.read (Elt F) ((datOf V c).arrAt (0 : Fin 1) cfg0.N) = Out V := by
    rw [show cfg0.N = (t0_0 : Fin cfg0.N).val + 1 from rfl, (datOf V c).arrAt_succ (0 : Fin 1) t0_0,
      show (cfg0.win (0 : Fin 1)).flush t0_0 = true from flush0_0 _, if_pos rfl]
    exact View.read_write_univ _ _
  funext i
  rw [← h]
  refine congrArg ((datOf V c).arrAt (0 : Fin 1) cfg0.N) ?_
  funext a
  apply Fin.ext
  fin_cases a <;> exact ((Nat.zero_add _).trans (Nat.one_mul _)).symm

end Cert.KernelIdeal.Run

end
-- ==== Proof.KernelIdeal.Launch.lean ====
/-
# The launch of the attention kernel on its eight devices, and what every execution of it leaves
-/
module

public import proofs.«01_k».proof.Proof.KernelIdeal.Region
public import proofs.«01_k».proof.Proof.Gen.KernelIdeal.Regions
public import Idealize.ShloMosaic.Lib.Pipeline.RegionTalk

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Seg RegionSeg)

variable (m : (ℓ : Loc nD τ sig) → Buf (Elt F) ℓ) (ρ : Dev nD → PrngReg)

/-! ## The region's record -/

/-- The buffers the body reads from where they are. -/
def opRefs : Finset (DevRef τ sig) :=
  {Proc.devRef .tc main_arg0, Proc.devRef .tc main_arg1, Proc.devRef .tc main_arg2, Proc.devRef .tc main_v14, Proc.devRef .tc main_v15}

theorem held_ops (c : Dev nD) (W : Dev nD → Valuation τ sig (Elt F)) :
    (StableHlo.held (c.tc : Thread nD τ) opRefs (W c) : sProp 𝕄) = operands W c := by
  unfold StableHlo.held opRefs
  rw [bigSep_insert (by decide), bigSep_insert (by decide), bigSep_insert (by decide), bigSep_insert (by decide), bigSep_singleton]
  rfl

/-- What the buffers hold at the end. -/
def V2 (c : Dev nD) : Valuation τ sig (Elt F) := Function.update (V1 m c) (Proc.devRef .tc main_v16) (Out (V1 m))
theorem V2_out (c : Dev nD) : V2 m c main_v16 = Out (V1 m) := Function.update_self ..
theorem V2_else (c : Dev nD) (b : DevRef τ sig) (h : b ≠ Proc.devRef .tc main_v16) : V2 m c b = V1 m c b := Function.update_of_ne h ..

abbrev arrs : Finset (DevRef τ sig) := Pipeline.arrRefs (τ := τ) spec0
abbrev others : Finset (DevRef τ sig) := Pipeline.ucRefs τ sig \ arrs

theorem arrs_eq : arrs = {Proc.devRef .tc main_v16} := by decide
theorem arrs_sub : arrs ⊆ Pipeline.ucRefs τ sig := by decide +kernel
theorem ops_sub : opRefs ⊆ others := by decide +kernel

theorem ops_after (c : Dev nD) : (StableHlo.held (c.tc : Thread nD τ) opRefs (V2 m c) : sProp 𝕄) = StableHlo.held (c.tc : Thread nD τ) opRefs (V1 m c) :=
  StableHlo.held_congr c.tc fun b hb => V2_else m c b (by revert hb; revert b; decide +kernel)

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem hin (c : Dev nD) : iprop(Pipeline.scopedRest (Pipeline.pin (pcfgs (F := F)) adm 0).spec c ∗ (∃ r, prngReg c r)
      ∗ StableHlo.held (c.tc : Thread nD τ) opRefs (V1 m c) ∗ Xk (V1 m) c) ⊢ (datsOf (V1 m) 0 c).Φ 0 := by
  rw [show (datsOf (V1 m) 0 c).Φ 0 = before (V1 m) c from inv_first (V1 m) c, held_ops]
  unfold before
  iintro ⟨Hs, Hp, Ho, HX⟩
  isplitl [HX]; · iexact HX
  isplitl [Ho]; · iexact Ho
  isplitl [Hs]
  · unfold scratch; iapply (Entails.of_eq (scopedRest0_eq c)) $$ Hs
  iexact Hp

theorem hout (c : Dev nD) : (datsOf (V1 m) 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) opRefs (V2 m c) ∗ Pipeline.ownSems0 osem c ∗ Yk c) := by
  rw [show (datsOf (V1 m) 0 c).Φ (Fin.last _) = afterward (V1 m) c from inv_last (V1 m) c, ops_after, held_ops, ownSems_split]
  unfold afterward
  rw [zeros_eq]
  iintro ⟨HY, Hz, Hi, Ho, Hs, Hp⟩
  isplitl [Hs]
  · unfold scratch; iapply (Entails.of_eq (scopedRest0_eq c).symm) $$ Hs
  isplitl [Hp]; · iexact Hp
  isplitl [Ho]; · iexact Ho
  isplitl [Hz Hi]
  · isplitl [Hz] <;> iassumption
  iexact HY

theorem above_all (c : Dev nD) : Above 0 (O₀ c) :=
  ((above_ag (by decide) c 0).add (above_rs (by decide) c 0)).add (Above.due (fun k => Above.tally _ _ _ (by decide)) 0)

theorem staging_none (c : Dev nD) (w : Fin 1) (s : Fin (spec0 w).nbuf) : kindOf c (.dma ((spec0 w).sem s)) = none := by revert c w s; decide

theorem cut (c : Dev nD) (t : Fin (cfg0.N + 1)) (g : GSem nD τ sig) (i : Unit) (h : 0 < (datOf (V1 m) c).owed t g i) : i ∈ L g ∧ (0 : ℕ) < lv g i := by
  rw [show (datOf (V1 m) c).owed t = if t.val = 0 then O₀ c else 0 from rfl] at h
  split at h
  · have := above_all c g i h
    exact ⟨by unfold L; rw [if_pos this.1]; exact Finset.mem_singleton_self _, this.2⟩
  · exact absurd h (Nat.lt_irrefl 0)

set_option backward.isDefEq.respectTransparency.types false in
/-- The region, entered with the launch's deal and left with the barrier's counter at zero. -/
def region : RegionSeg (pcfgs (F := F)) adm (datsOf (V1 m)) () defs₀ 𝒱₀ L lv 0 :=
  RegionSeg.ofTalk (pcfgs (F := F)) adm (datsOf (V1 m)) () defs₀ 𝒱₀ L lv 0 osem osem_facts opRefs others ops_sub kit rfl
    (fun c => (obligation (V1 m) c).loose)
    (fun _ => 0) O₀ (fun c => (owed_first (V1 m) c).trans (zero_add _).symm) (owed_last (V1 m)) (fun _ => rfl) (fun c w => by unfold Dat.share; split <;> rfl)
    (V1 m) (V2 m) (fun c b hb => V2_else m c b fun h => by
      have h1 := (Finset.mem_sdiff.mp (Finset.mem_sdiff.mp hb).1).2
      exact h1 (by rw [arrs_eq, h]; exact Finset.mem_singleton_self _))
    (Tk (V1 m)) Yk (Xk (V1 m)) Yk (hopen (V1 m)) (hin m) (hout m)
    (fun c => by iintro H; imodintro; iexact H)
    (fun _ => 0)
    ⟨fun c w s => by rw [L_tc]; exact Finset.mem_singleton_self _, fun c w s => by unfold lv; rw [staging_none c w s]; exact Nat.le_refl 0, fun c t g i h => cut m c t g i h⟩
    (fun _ => iprop(emp))
    (fun c w => rfl)
    (fun c w => by
      obtain rfl : w = 0 := Subsingleton.elim _ _
      exact (result_eq (V1 m) c).trans (V2_out m c).symm)

/-! ## The rest beside the buffers, and the chain of the two items -/

def E (_ : Fin 2) (c : Dev nD) : sProp 𝕄 := iprop(Tk (V1 m) c ∗ (∃ r, prngReg c r) ∗ owing c (O₀ c))
abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (V2 m c) ∗ Yk (F := F) c)

theorem region_pre (c : Dev nD) : iprop(StableHlo.held (c : Thread nD τ) (Pipeline.ucRefs τ sig) (V1 m c) ∗ E m 0 c) ⊢ (region m).pre c := by
  show _ ⊢ iprop(StableHlo.held (c.tc : Thread nD τ) arrs (V1 m c) ∗ (∃ r, prngReg c r)
    ∗ (StableHlo.held (c.tc : Thread nD τ) others (V1 m c) ∗ emp) ∗ Tk (V1 m) c ∗ ∃ Wd, owes (c : Thread nD τ) (0 + O₀ c) Wd)
  rw [StableHlo.held_sub_split c.tc arrs_sub, zero_add]
  unfold E owing
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem region_post (c : Dev nD) : (region m).post c ⊢ iprop(Tₙ m c ∗ ∃ W, owes (c : Thread nD τ) (0 : CellTallies nD τ sig Unit) W) := by
  show iprop(StableHlo.held (c.tc : Thread nD τ) arrs (V2 m c) ∗ (∃ r, prngReg c r)
    ∗ (StableHlo.held (c.tc : Thread nD τ) others (V2 m c) ∗ emp) ∗ Yk c ∗ ∃ Wd, owes (c : Thread nD τ) (0 : CellTallies nD τ sig Unit) Wd) ⊢ _
  unfold Tₙ
  rw [StableHlo.held_sub_split c.tc arrs_sub]
  iintro ⟨Ha, -, ⟨Hr, -⟩, HY, HO⟩
  isplitr [HO]
  · isplitl [Ha Hr]
    · isplitl [Ha] <;> iassumption
    iexact HY
  iexact HO

/-! ## The launch -/

def u₀ : UU := (initOf (Pipeline.cells cfgs cellOf_inj) (Pipeline.launchToks cfgs cellOf_inj), launchOf barCells ownCells allToks)

/-- Held on device 0 alone. -/
def atZero (X : sProp 𝕄) (c : Dev nD) : sProp 𝕄 := if c = 0 then X else iprop(emp)
theorem atZero_all (X : sProp 𝕄) : bigSep Finset.univ (atZero X) = X := by
  have h : bigSep (Finset.univ.erase (0 : Dev nD)) (atZero X) = bigSep (Finset.univ.erase (0 : Dev nD)) fun _ => (BI.emp : sProp 𝕄) :=
    bigSep_congr fun c hc => if_neg (Finset.ne_of_mem_erase hc)
  rw [bigSep_univ_at _ (0 : Dev nD), h, BI.bigSep_emp_const]
  unfold atZero; rw [if_pos rfl]
  exact BI.equiv_iff.mp sep_emp

def G : Dev nD → sProp 𝕄 := atZero (BI.own (ER (launchOf barCells ownCells allToks)))

theorem unscoped_bar : ∀ sm : SemLoc sig, sm.isScoped .tc = false → sm = .reg barrier0 := by decide +kernel
theorem unscopedSems_eq (c : Dev nD) : (unscopedSems0 c : sProp 𝕄) = semVal (cell c .bar) 0 := by
  unfold unscopedSems0
  rw [show (Finset.univ.filter fun sm : SemLoc sig => ¬sm.isScoped .tc = true) = {.reg barrier0} by decide +kernel, bigSep_singleton]
  rfl

/-- Everything a device holds but for what every device knows. -/
def bundle (c : Dev nD) : sProp 𝕄 :=
  iprop(StableHlo.held (c : Thread nD τ) (Pipeline.ucRefs τ sig) (V0 m c) ∗ creds (F := F) c ∗ owes (c : Thread nD τ) (O₀ c) ∅ ∗ ∃ r, prngReg c r)

def shared (κ : GSem nD τ sig → ℕ) : sProp 𝕄 :=
  iprop((bigSep (barCells ∪ ownCells) fun g => cellInv ER (Rd (V1 m)) (κ g) g) ∗ bigSep barCells fun g => reached ER g 0)
instance shared_persistent (κ : GSem nD τ sig → ℕ) : BI.Persistent (shared m κ) := by unfold shared; infer_instance

theorem shared_invs (κ : GSem nD τ sig → ℕ) :
    (bigSep (barCells ∪ ownCells) fun g => (cellInv ER (Rd (V1 m)) (κ g) g : sProp 𝕄)) ⊢ invs (V1 m) fun p => κ (cell p.1 p.2) :=
  (bigSep_of_persistent Finset.univ _).trans (bigSep_mono fun p _ => bigSep_elim (cell_mem p.1 p.2))
theorem shared_bars : (bigSep barCells fun g => (reached ER g 0 : sProp 𝕄)) ⊢ bars (F := F) :=
  Entails.of_eq (bigSep_map (s := Finset.univ) barEmb (Φ := fun g : GSem nD τ sig => (reached ER g 0 : sProp 𝕄)))

theorem T₀_intro (κ : GSem nD τ sig → ℕ) (c : Dev nD) : iprop(shared m κ ∗ linear (F := F) c ∗ bundle m c) ⊢ T₀ m c := by
  unfold shared bundle T₀ E Tk owing
  iintro ⟨⟨HI, HR⟩, Hl, Hh, Hc, HO, Hp⟩
  isplitl [Hh]; · iexact Hh
  isplitl [HI HR Hl Hc]
  · isplitr [Hc]
    · iexists fun p => κ (cell p.1 p.2)
      isplitl [HI]; · iapply (shared_invs m κ) $$ HI
      isplitl [HR]; · iapply (shared_bars (F := F)) $$ HR
      iexact Hl
    iexact Hc
  isplitl [Hp]; · iexact Hp
  iexists ∅; iexact HO

abbrev dealtIn (c : Dev nD) : sProp 𝕄 :=
  iprop(unscopedBufs c (fun b => m ((c : Thread nD τ).loc b)) ∗ unscopedSems0 c ∗ owes (c : Thread nD τ) (O₀ c) ∅ ∗ Pipeline.launchCred O₀ c ∗ prngReg c (ρ c) ∗ G (F := F) c)

theorem dealtIn_split (c : Dev nD) : dealtIn m ρ c ⊢ iprop(bundle m c ∗ semVal (cell c .bar) 0 ∗ G (F := F) c) := by
  unfold dealtIn
  rw [show (unscopedBufs c (fun b => m ((c : Thread nD τ).loc b)) : sProp 𝕄) = StableHlo.held (c : Thread nD τ) (Pipeline.ucRefs τ sig) (V0 m c) from
    Pipeline.unscopedBufs_held (Ix := Unit) (Name := ℕ) (U := UU) (Lvl := ℕ) c (V0 m c), unscopedSems_eq]
  unfold bundle
  iintro ⟨Hh, Hb, HO, Hc, Hp, HG⟩
  ihave Hc := (creds_intro (F := F) c) $$ Hc
  isplitr [Hb HG]
  · isplitl [Hh]; · iexact Hh
    isplitl [Hc]; · iexact Hc
    isplitl [HO]; · iexact HO
    iexists (ρ c); iexact Hp
  isplitl [Hb] <;> iassumption

theorem pairUp {Φ Ψ : Dev nD → sProp 𝕄} : iprop(bigSep Finset.univ Φ ∗ bigSep Finset.univ Ψ) ⊢ bigSep Finset.univ fun c => iprop(Φ c ∗ Ψ c) :=
  Entails.of_eq (bigSep_sep' ..).symm
theorem unpair {Φ Ψ : Dev nD → sProp 𝕄} : (bigSep Finset.univ fun c => iprop(Φ c ∗ Ψ c)) ⊢ iprop(bigSep Finset.univ Φ ∗ bigSep Finset.univ Ψ) :=
  Entails.of_eq (bigSep_sep' ..)

theorem init : iprop((bigSep Finset.univ (dealtIn m ρ)) ∗ levAts L lv) ⊢ (|={Set.univ}=> bigSep Finset.univ (T₀ m) : sProp 𝕄) := by
  have hv : bigSep Finset.univ (fun c : Dev nD => (semVal (cell c .bar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c .bar) 0 ∅ 0 : sProp 𝕄)) :=
    Entails.of_eq (bigSep_map (s := Finset.univ) barEmb (Φ := fun g : GSem nD τ sig => (atPos ER g 0 ∅ 0 : sProp 𝕄)))
  have ho : bigSep ownCells (fun g => (openTok ER g : sProp 𝕄))
      ⊢ bigSep Finset.univ fun c : Dev nD => bigSep Finset.univ fun x : Own => (openTok ER (cell c (kindAt x)) : sProp 𝕄) :=
    Entails.of_eq ((bigSep_map (s := Finset.univ) ownEmb (Φ := fun g : GSem nD τ sig => (openTok ER g : sProp 𝕄))).trans
      (bigSep_univ_prod fun p : Dev nD × Own => (openTok ER (cell p.1 (kindAt p.2)) : sProp 𝕄)))
  iintro ⟨H, -⟩
  ihave H := (show bigSep Finset.univ (dealtIn m ρ) ⊢ (bigSep Finset.univ fun c : Dev nD => iprop(bundle m c ∗ semVal (cell c .bar) 0 ∗ G (F := F) c) : sProp 𝕄) from
    bigSep_mono fun c _ => dealtIn_split m ρ c) $$ H
  ihave ⟨HB, H⟩ := unpair $$ H
  ihave ⟨Hv, HG⟩ := unpair $$ H
  ihave Hu := (show bigSep Finset.univ (G (F := F)) ⊢ BI.own (ER (launchOf barCells ownCells allToks)) from
    Entails.of_eq (atZero_all (F := F) _)) $$ HG
  imod (Rounds.fund_launch ER (Rd (V1 m)) cells_disjoint (fun g _ h => h) allToks) $$ [Hv Hu] with ⟨%κ, -, #HI, #HR, Hat, Hopen, Htok⟩
  · isplitl [Hv]
    · iapply hv $$ Hv
    · iexact Hu
  imodintro
  iapply (bigSep_with_persistent (R := shared m κ) (Φ := fun c => iprop(linear (F := F) c ∗ bundle m c)) fun c _ => T₀_intro m κ c)
  isplitr
  · unfold shared
    isplitr; · iexact HI
    iexact HR
  iapply pairUp
  isplitr [HB]
  · unfold linear
    iapply pairUp; isplitl [Hat]; · iapply hat $$ Hat
    iapply pairUp; isplitl [Hopen]; · iapply ho $$ Hopen
    iapply (Entails.of_eq (toks_dealt (F := F))) $$ Htok
  · iexact HB

/-! ## The run -/

set_option backward.isDefEq.respectTransparency.types false in
/-- From any memory with zero counters every weakly fair execution ends, with the arguments as they were, the result
    buffer of every device at the gathered sums, and every counter at zero. -/
theorem run_main : θ_run defs (onTc (τ := τ) (main (F := F))) (s₀ m ρ)
    (fun r => (∀ c : Dev nD, (r.2.mem ((c : Thread nD τ).loc main_v16) = Out (V1 m))
        ∧ r.2.mem ((c : Thread nD τ).loc main_arg0) = m ((c : Thread nD τ).loc main_arg0) ∧ r.2.mem ((c : Thread nD τ).loc main_arg1) = m ((c : Thread nD τ).loc main_arg1)
        ∧ r.2.mem ((c : Thread nD τ).loc main_arg2) = m ((c : Thread nD τ).loc main_arg2) ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_dev_sems (pcfgs (F := F)) adm (datsOf (V1 m)) () cellOf_inj EP defs₀ 𝒱₀ L lv m ρ main
    (segs m 𝒱₀ L lv (E m) () (datsOf (V1 m)) (region m))
    (fun c Q => by
      rewrite [main_chain c, Seg.run_eq_chain, show (segs m 𝒱₀ L lv (E m) () (datsOf (V1 m)) (region m) c).map Seg.prog
        = [StableHlo.seq (hostOps0 c), Prog.lift (.customCall (Pipeline.entry 0) ())] from rfl]
      exact .rfl)
    (fun c => by simp only [segs, Seg.pipes_host, Seg.pipes_region, Seg.pipes_nil]; decide)
    (O₀ := O₀) (hL := L_of_ne) (G := G) (u₀ := u₀)
    (hu₀ := by
      unfold u₀ G
      iintro Hu
      ihave ⟨HP, HX⟩ := (ownU_pair _ _) $$ Hu
      imodintro
      isplitl [HP]; · iexact HP
      rw [atZero_all]; iexact HX)
    (T₀ := T₀ m) (Tₙ := Tₙ m)
    (hch := fun c => ⟨.rfl, region_pre m c, region_post m c⟩)
    (hinit := init m ρ)
    (QY := fun c s => (∀ b ∈ Pipeline.ucRefs τ sig, s.mem (c, b) = V2 m c b) ∧ s.sem (cell c .bar) = 0)
    (hfin := fun c s' => by
      unfold Tₙ StableHlo.held Yk
      iintro ⟨⟨Hr, Hb0⟩, HSI⟩
      icombine HSI Hb0 gives %hb
      ihave Hr := (pointsTo_read_all (Pipeline.ucRefs τ sig) (fun b => ((c : Thread nD τ).1, b)) (V2 m c) s') $$ [Hr HSI]
      · isplitl [Hr] <;> iassumption
      icases Hr with ⟨%h, HSI⟩
      imodintro
      isplitr
      · ipureintro; exact ⟨h, by simpa using hb⟩
      iexact HSI)
    (hQ := fun s h hs => ⟨fun c => by
        have hr : ∀ r : Ref sig .tc, Proc.devRef .tc r ∈ Pipeline.ucRefs τ sig → s.mem ((c : Thread nD τ).loc r) = V2 m c (Proc.devRef .tc r) := fun r h' => (h c).1 _ h'
        have ha : ∀ r : Ref sig .tc, Proc.devRef .tc r ∈ Pipeline.ucRefs τ sig → (Proc.devRef .tc r : DevRef τ sig) ≠ Proc.devRef .tc main_v16 → r ∉ hostOps0_W →
            s.mem ((c : Thread nD τ).loc r) = m ((c : Thread nD τ).loc r) := fun r h1 h2 h3 => (hr r h1).trans ((V2_else m c _ h2).trans (V1_of m c r h3))
        exact ⟨(hr main_v16 (by decide)).trans (V2_out m c), ha main_arg0 (by decide) (by decide) (by decide), ha main_arg1 (by decide) (by decide) (by decide),
          ha main_arg2 (by decide) (by decide) (by decide), ha main_arg3 (by decide) (by decide) (by decide), ha main_arg4 (by decide) (by decide) (by decide)⟩,
      sem_eq_zero hs fun c sm hsm => by
        obtain rfl := unscoped_bar sm hsm
        exact (h c).2⟩)

end Cert.KernelIdeal.Run

end
-- ==== Proof.Attn.lean ====
/-
# Attention over the extended reals, by coordinates

What the kernel and the reference both compute, written with plain sums over `Fin`.
-/
module

public import Idealize.ShloMosaic.PureOps.Ideal.Laws
public import Idealize.ShloMosaic.Lib.ValueIdx
public import Idealize.ShloMosaic.Lib.IdealHost

@[expose] public section

noncomputable section

namespace Cert.Attn

open Idealize.ShloMosaic Idealize.ShloMosaic.ValueIdx
open scoped BigOperators

/-- The largest of a row's scores, from minus infinity. -/
def top (s : Fin 128 → EReal) : EReal :=
  (Finset.univ : Finset (Fin 128)).fold max (Ideal.ofBits .f32 0xFF800000#32) s

/-- The softmax of a row of scores. -/
def weight (s : Fin 128 → EReal) (j : Fin 128) : EReal :=
  Ideal.div (Ideal.exp (s j - top s)) (∑ t : Fin 128, Ideal.exp (s t - top s))

/-- A query row's scores against 128 key rows, an eighth of their products. -/
def scores (q : Fin 64 → EReal) (k : Fin 128 → Fin 64 → EReal) (j : Fin 128) : EReal :=
  (∑ e : Fin 64, q e * k j e) * Ideal.ofBits .f32 0x3E000000#32

/-- One query row of one head: the value rows, each at its weight. -/
def head (q : Fin 64 → EReal) (k v : Fin 128 → Fin 64 → EReal) (d : Fin 64) : EReal :=
  ∑ j : Fin 128, weight (scores q k) j * v j d

/-- The arrays' shapes. -/
abbrev SX : Shape := ⟨3, ![2, 128, 512]⟩
abbrev SQ : Shape := ⟨2, ![512, 4096]⟩
abbrev SO : Shape := ⟨2, ![4096, 512]⟩
abbrev SK : Shape := ⟨4, ![2, 128, 64, 64]⟩

/-- Column `64 h + e`. -/
def col (h e : Fin 64) : Fin 4096 := ⟨64 * h.val + e.val, by have := h.isLt; have := e.isLt; omega⟩

/-- The head and the place in it of a column. -/
def hd (c : Fin 4096) : Fin 64 := ⟨c.val / 64, by have := c.isLt; omega⟩
def pl (c : Fin 4096) : Fin 64 := ⟨c.val % 64, by omega⟩

/-- Query row `i` of batch `b`, head `h`. -/
def query (x : SX.Idx → EReal) (wq : SQ.Idx → EReal) (b : Fin 2) (i : Fin 128) (h : Fin 64) (e : Fin 64) : EReal :=
  ∑ k : Fin 512, x (ix3 b i k) * wq (ix2 k (col h e))

/-- The attention's row `i` of batch `b`, head `h`. -/
def mixed (x : SX.Idx → EReal) (wq : SQ.Idx → EReal) (K V : SK.Idx → EReal) (b : Fin 2) (i : Fin 128) (h : Fin 64) (d : Fin 64) : EReal :=
  head (query x wq b i h) (fun j e => K (ix4 b j h e)) (fun j e => V (ix4 b j h e)) d

/-- The result: the heads side by side, times the output matrix. -/
def result (x : SX.Idx → EReal) (wq : SQ.Idx → EReal) (wo : SO.Idx → EReal) (K V : SK.Idx → EReal) : SX.Idx → EReal := fun o =>
  ∑ c : Fin 4096, mixed x wq K V (o 0) (o 1) (hd c) (pl c) * wo (ix2 c (o 2))

/-- A sum over 4096 columns, device by device. -/
theorem sum_columns (f : Fin 4096 → EReal) :
    ∑ c : Fin 4096, f c = ∑ s : Fin 8, ∑ e : Fin 512, f ⟨512 * s.val + e.val, by have := s.isLt; have := e.isLt; omega⟩ := by
  rw [← Fintype.sum_prod_type', ← Equiv.sum_comp (finProdFinEquiv (m := 8) (n := 512)) f]
  refine Finset.sum_congr rfl fun p _ => congrArg f (Fin.ext ?_)
  show p.2.val + 512 * p.1.val = 512 * p.1.val + p.2.val
  omega

end Cert.Attn

end
-- ==== Proof.KernelIdeal.Heads.lean ====
/-
# One device's heads over the extended reals, by coordinates
-/
module

public import proofs.«01_k».proof.Proof.KernelIdeal.Proto
public import proofs.«01_k».proof.Proof.Attn
public import Idealize.ShloMosaic.Lib.MatmulPlain
public import Idealize.ShloMosaic.Lib.Pipeline.Value

@[expose] public section

noncomputable section

namespace Cert.KernelIdeal.Meaning

open Cert.KernelIdeal Cert.KernelIdeal.Gen Cert.KernelIdeal.Run Cert.Attn
open Idealize.ShloMosaic Idealize.ShloMosaic.ValueIdx
open scoped BigOperators

/-! ## One head, in the kernel's operations -/

/-- The scaled scores of 128 queries against 128 keys. -/
abbrev scaled (q k : FVec Ideal S128x64 .f32) : FVec Ideal S128x128 .f32 :=
  mulf (matmul dot_S128x64_S128x64_S128x128_1_1_0_0_n_n none q k (constant S128x128 .f32 0x00000000#32))
    (broadcast S128x128 (Scalar.ofBits .f32 0x3E000000#32 : Ideal .f32))

/-- Their exponentials, less each row's largest. -/
abbrev raised (s : FVec Ideal S128x128 .f32) : FVec Ideal S128x128 .f32 :=
  exp (subf s (broadcastTo S128x128 (shapeCast S128x1 (multiReduction .maximumf [1] S128 s 0xFF800000#32 reduces_S128x128_S128 (.inl rfl) rfl)
    shapeCasts_S128_S128x1) broadcasts_S128x1_S128x128))

/-- Each row divided by its sum. -/
abbrev weighed (p : FVec Ideal S128x128 .f32) : FVec Ideal S128x128 .f32 :=
  divf p (broadcastTo S128x128 (shapeCast S128x1 (multiReduction .add [1] S128 p 0x00000000#32 reduces_S128x128_S128 (.inl rfl) rfl)
    shapeCasts_S128_S128x1) broadcasts_S128x1_S128x128)

/-- One head: the softmax of the scores times the values. -/
abbrev headOf (q : FVec Ideal S128x64 .f32) (k v : Vec Ideal S1x128x64 .f32) : FVec Ideal S128x64 .f32 :=
  matmul (φ₂ := .f32) dot_S128x128_S128x64_S128x64_1_0_0_1_n_n none
    (weighed (raised (scaled q (shapeCast S128x64 k shapeCasts_S1x128x64_S128x64))))
    (shapeCast S128x64 v shapeCasts_S1x128x64_S128x64) (constant S128x64 .f32 0x00000000#32)

theorem slices_head (b : Fin 2) (h : Fin 8) : S256x512.Slices ![128 * b.val, 64 * h.val] S128x64 := by
  revert b h; decide

/-- The eight heads of one batch, side by side. -/
abbrev batchOf (q : FVec Ideal S256x512 .f32) (k v : Fin 2 → Fin 8 → Vec Ideal S1x128x64 .f32) (b : Fin 2) : FVec Ideal S128x512 .f32 :=
  concatenate S128x512 1 (List.ofFn fun h : Fin 8 => (⟨S128x64, headOf (extractStridedSlice S128x64 ![128 * b.val, 64 * h.val] q (slices_head b h)) (k b h) (v b h)⟩ :
      (s : Shape) × (s.Idx → Ideal .f32)))
    concatenates_S128x64_S128x64_S128x64_S128x64_S128x64_S128x64_S128x64_S128x64_S128x512_d1

/-- Both batches, one under the other. -/
abbrev bothOf (q : FVec Ideal S256x512 .f32) (k v : Fin 2 → Fin 8 → Vec Ideal S1x128x64 .f32) : FVec Ideal S256x512 .f32 :=
  concatenate S256x512 0 (List.ofFn fun b : Fin 2 => (⟨S128x512, batchOf q k v b⟩ : (s : Shape) × (s.Idx → Ideal .f32)))
    concatenates_S128x512_S128x512_S256x512_d0

/-- A device's partial product is its heads' outputs times its rows of the output matrix. -/
theorem partial_eq (x : Vec Ideal S2x128x512 .f32) (wq wo : Vec Ideal S512x512 .f32) (k v : Fin 2 → Fin 8 → Vec Ideal S1x128x64 .f32) :
    partialOf (F := Ideal) x wq wo k v = k0_pay26 (bothOf (k0_pay1 x wq) k v) wo := rfl

/-! ## The same by coordinates -/

/-- A row's number laid along the row. -/
theorem along_apply (r : FVec Ideal S128 .f32) (i j : Fin 128) :
    broadcastTo S128x128 (shapeCast S128x1 r shapeCasts_S128_S128x1) broadcasts_S128x1_S128x128 (ix2 i j) = r (ix1 i) := by
  rw [broadcastTo_apply _ _ _ (ix2 i (0 : Fin 1)) (by
    intro a
    match a with
    | ⟨0, _⟩ => rfl
    | ⟨1, _⟩ => rfl)]
  exact shapeCast_apply _ _ _ (ix1 i) (by
    rw [Shape.rowMajor_val_one, Shape.rowMajor_val_two]
    show i.val = i.val * 1 + 0
    omega)

theorem top_apply (s : FVec Ideal S128x128 .f32) (i : Fin 128) :
    multiReduction .maximumf [1] S128 s 0xFF800000#32 reduces_S128x128_S128 (.inl rfl) rfl (ix1 i) = top fun j => s (ix2 i j) := by
  refine (Ideal.multiReduction_maximumf_single _ _ _ _ _ _).trans ?_
  refine congrArg (fun f => Finset.fold max _ f (Finset.univ : Finset (Fin 128))) (funext fun j => ?_)
  refine congrArg s (funext fun a => Fin.ext ?_)
  match a with
  | ⟨0, _⟩ => rfl
  | ⟨1, _⟩ => rfl

theorem sum_apply (s : FVec Ideal S128x128 .f32) (i : Fin 128) :
    multiReduction .add [1] S128 s 0x00000000#32 reduces_S128x128_S128 (.inl rfl) rfl (ix1 i) = ∑ j : Fin 128, s (ix2 i j) := by
  refine (Ideal.multiReduction_add_single _ _ _ _ _ _).trans ?_
  refine Finset.sum_congr rfl fun j _ => congrArg s (funext fun a => Fin.ext ?_)
  match a with
  | ⟨0, _⟩ => rfl
  | ⟨1, _⟩ => rfl

theorem drop_apply (k : Vec Ideal S1x128x64 .f32) (j : Fin 128) (e : Fin 64) :
    shapeCast S128x64 k shapeCasts_S1x128x64_S128x64 (ix2 j e) = k (ix3 (0 : Fin 1) j e) :=
  shapeCast_apply _ _ _ (ix3 (0 : Fin 1) j e) (by
    rw [Shape.rowMajor_val_two, Shape.rowMajor_val_three]
    show (0 * 128 + j.val) * 64 + e.val = j.val * 64 + e.val
    omega)

/-- A product accumulated from zero. -/
theorem plain_apply {M K N : ℕ} (A : FVec Ideal ⟨2, ![M, K]⟩ .f32) (B : FVec Ideal ⟨2, ![K, N]⟩ .f32) (r : Fin M) (c : Fin N) :
    matmul (DotDims.plain M K N) none A B (constant ⟨2, ![M, N]⟩ .f32 0x00000000#32) (ix2 r c) = ∑ k : Fin K, A (ix2 r k) * B (ix2 k c) := by
  refine (Ideal.matmul_plain_apply none A B _ r c).trans ?_
  show Ideal.ofBits .f32 0x00000000#32 + _ = _
  rw [Ideal.ofBits_zero_f32, zero_add]

theorem scaled_apply (q k : FVec Ideal S128x64 .f32) (i j : Fin 128) :
    scaled q k (ix2 i j) = scores (fun e => q (ix2 i e)) (fun j e => k (ix2 j e)) j := by
  refine congrArg (· * Ideal.ofBits .f32 0x3E000000#32) ?_
  refine (Ideal.matmul_transposedRhs_apply none q k _ i j).trans ?_
  show Ideal.ofBits .f32 0x00000000#32 + _ = _
  rw [Ideal.ofBits_zero_f32, zero_add]

theorem raised_apply (s : FVec Ideal S128x128 .f32) (i j : Fin 128) :
    raised s (ix2 i j) = Ideal.exp (s (ix2 i j) - top fun t => s (ix2 i t)) := by
  refine congrArg (fun t => Ideal.exp (s (ix2 i j) - t)) ?_
  rw [along_apply, top_apply]

theorem weighed_apply (s : FVec Ideal S128x128 .f32) (i j : Fin 128) :
    weighed (raised s) (ix2 i j) = weight (fun t => s (ix2 i t)) j := by
  refine congrArg₂ Ideal.div (raised_apply s i j) ?_
  rw [along_apply, sum_apply]
  exact Finset.sum_congr rfl fun t _ => raised_apply s i t

theorem headOf_apply (q : FVec Ideal S128x64 .f32) (k v : Vec Ideal S1x128x64 .f32) (i : Fin 128) (d : Fin 64) :
    headOf q k v (ix2 i d)
      = head (fun e => q (ix2 i e)) (fun j e => k (ix3 (0 : Fin 1) j e)) (fun j e => v (ix3 (0 : Fin 1) j e)) d := by
  refine (plain_apply _ _ i d).trans (Finset.sum_congr rfl fun j _ => congrArg₂ (· * ·) ?_ (drop_apply v j d))
  rw [weighed_apply]
  refine congrArg (fun s => weight s j) (funext fun t => (scaled_apply _ _ _ _).trans ?_)
  exact congrArg (fun f => scores _ f t) (funext fun j => funext fun e => drop_apply k j e)

/-- Row `128 b + i`. -/
def row (b : Fin 2) (i : Fin 128) : Fin 256 := ⟨128 * b.val + i.val, by have := b.isLt; have := i.isLt; omega⟩

/-- Column `64 h + e` of a device's 512. -/
def lane (h : Fin 8) (e : Fin 64) : Fin 512 := ⟨64 * h.val + e.val, by have := h.isLt; have := e.isLt; omega⟩

theorem bothOf_apply (q : FVec Ideal S256x512 .f32) (k v : Fin 2 → Fin 8 → Vec Ideal S1x128x64 .f32) (b : Fin 2) (i : Fin 128) (h : Fin 8) (d : Fin 64) :
    bothOf q k v (ix2 (row b i) (lane h d))
      = head (fun e => q (ix2 (row b i) (lane h e))) (fun j e => k b h (ix3 (0 : Fin 1) j e)) (fun j e => v b h (ix3 (0 : Fin 1) j e)) d := by
  have hb := b.isLt; have hi := i.isLt; have hh := h.isLt; have hd := d.isLt
  refine (concatenate_ofFn_apply (t := S256x512) (s₁ := S128x512) 0 _ _ rfl 128 rfl _ b ?_ (ix2 i (lane h d)) ?_ ?_).trans ?_
  · show (128 * b.val + i.val) / 128 = b.val
    omega
  · show i.val = (128 * b.val + i.val) % 128
    omega
  · intro a ha
    match a with
    | ⟨0, _⟩ => exact absurd rfl ha
    | ⟨1, _⟩ => rfl
  refine (concatenate_ofFn_apply (t := S128x512) (s₁ := S128x64) 1 _ _ rfl 64 rfl _ h ?_ (ix2 i d) ?_ ?_).trans ?_
  · show (64 * h.val + d.val) / 64 = h.val
    omega
  · show d.val = (64 * h.val + d.val) % 64
    omega
  · intro a ha
    match a with
    | ⟨0, _⟩ => rfl
    | ⟨1, _⟩ => exact absurd rfl ha
  refine (headOf_apply _ _ _ _ _).trans ?_
  refine congrArg (fun f => head f _ _ d) (funext fun e => ?_)
  exact extractStridedSlice_apply _ _ _ _ _ (by
    intro a
    match a with
    | ⟨0, _⟩ => rfl
    | ⟨1, _⟩ => rfl)

/-- The queries a device makes. -/
theorem queries_apply (x : Vec Ideal S2x128x512 .f32) (wq : Vec Ideal S512x512 .f32) (b : Fin 2) (i : Fin 128) (c : Fin 512) :
    k0_pay1 (F := Ideal) x wq (ix2 (row b i) c) = ∑ k : Fin 512, x (ix3 b i k) * wq (ix2 k c) := by
  refine (plain_apply _ _ _ _).trans (Finset.sum_congr rfl fun k _ => congrArg (· * _) ?_)
  exact shapeCast_apply _ _ _ (ix3 b i k) (by
    rw [Shape.rowMajor_val_two, Shape.rowMajor_val_three]
    show (b.val * 128 + i.val) * 512 + k.val = (128 * b.val + i.val) * 512 + k.val
    omega)

/-- The partial product by coordinates. -/
theorem partial_apply (x : Vec Ideal S2x128x512 .f32) (wq wo : Vec Ideal S512x512 .f32) (k v : Fin 2 → Fin 8 → Vec Ideal S1x128x64 .f32)
    (r : Fin 256) (d : Fin 512) :
    partialOf (F := Ideal) x wq wo k v (ix2 r d) = ∑ e : Fin 512, bothOf (k0_pay1 x wq) k v (ix2 r e) * wo (ix2 e d) := by
  rw [partial_eq]
  refine (shapeCast_apply (s := S256x512) (t := S256x512) (matmul (F := Ideal) (φ₁ := .f32) (φ₂ := .f32) dot_S256x512_S512x512_S256x512_1_0_0_1_n_n none _ wo (constant S256x512 .f32 0x00000000#32)) shapeCasts_S256x512_S256x512 (ix2 r d) (ix2 r d) rfl).trans ?_
  exact plain_apply _ _ r d

end Cert.KernelIdeal.Meaning

end
-- ==== Proof.KernelIdeal.Value.lean ====
/-
# What the kernel leaves, over the extended reals
-/
module

public import proofs.«01_k».proof.Proof.KernelIdeal.Heads
public import proofs.«01_k».proof.Proof.Gen.KernelIdeal.Regions
public import Idealize.ShloMosaic.Lib.StableHlo.RunClose
public import Idealize.ShloMosaic.Lib.DynamicIndex
public import Idealize.ShloMosaic.Lib.LayoutAt

@[expose] public section

noncomputable section

namespace Cert.KernelIdeal.Meaning

open Cert.KernelIdeal Cert.KernelIdeal.Gen Cert.KernelIdeal.Run Cert.Attn
open Idealize.ShloMosaic Idealize.ShloMosaic.ValueIdx
open Idealize.ShloMosaic.TcCoe
open scoped BigOperators

variable (m : (b : Loc nD τ sig) → Buf (Elt Ideal) b)

/-! ## The keys and values a device holds -/

/-- Eight times a device's number, as its operations make it. -/
abbrev eightfold (c : Dev nD) : IVec S_ 32 :=
  muli (id (Host.remui (Host.divui (constantI S_ 32 (Dev.word c)) (constantI S_ 32 1#32)) (constantI S_ 32 8#32))) (constantI S_ 32 8#32)

/-- The head a device's slice starts at. -/
abbrev start (c : Dev nD) : IVec S_ 32 :=
  select (cmpi .slt (eightfold c) (constantI S_ 32 0#32)) (addi (eightfold c) (constantI S_ 32 64#32)) (eightfold c)

/-- The slice of a device's eight heads, its heads then side by side. -/
abbrev eight (c : Dev nD) (f : Vec Ideal S2x128x64x64 .f32) : Vec Ideal S2x128x512 .f32 :=
  shapeCast S2x128x512 (Host.dynamicSlice S2x128x8x64 f
    (fun k => ((![constantI S_ 32 0#32, constantI S_ 32 0#32, start c, constantI S_ 32 0#32] : Fin 4 → IVec S_ 32) k (Shape.Idx.first h_S_)).toInt)
    sliceFits_S2x128x64x64_S2x128x8x64) shapeCasts_S2x128x8x64_S2x128x512

theorem keys_run (c : Dev nD) : V1 (F := Ideal) m c main_v14 = eight c (m ((c : Thread nD τ).loc main_arg3)) := by
  unfold V1 hostOps0
  after_results_entrywise []

theorem values_run (c : Dev nD) : V1 (F := Ideal) m c main_v15 = eight c (m ((c : Thread nD τ).loc main_arg4)) := by
  unfold V1 hostOps0
  after_results_entrywise []

theorem start_toInt (c : Dev nD) : (start c (Shape.Idx.first h_S_)).toInt = ((8 * c.val : ℕ) : ℤ) := by
  revert c; decide

theorem slices_eight (c : Dev nD) : S2x128x64x64.Slices ![0, 0, 8 * c.val, 0] S2x128x8x64 := by
  revert c; decide

/-- Head `8 c + h`. -/
def far (c h : Fin 8) : Fin 64 := ⟨8 * c.val + h.val, by have := c.isLt; have := h.isLt; omega⟩

/-- Head `h` of a device's eight is head `8 c + h` of the array. -/
theorem slab_eight (c : Dev nD) (f : Vec Ideal S2x128x64x64 .f32) (b : Fin 2) (h : Fin 8) (j : Fin 128) (e : Fin 64) :
    slab (eight c f) b h (ix3 (0 : Fin 1) j e) = f (ix4 b j (far c h) e) := by
  refine (shapeCast_apply _ _ _ (ix4 b j h e) ?_).trans ?_
  · rw [Shape.rowMajor_val_three, Shape.rowMajor_val_four]
    show ((b.val * 128 + j.val) * 8 + h.val) * 64 + e.val = (b.val * 128 + j.val) * 512 + (64 * h.val + e.val)
    omega
  rw [Host.dynamicSlice_eq_extractStridedSlice S2x128x8x64 f _ ![0, 0, 8 * c.val, 0] _ (slices_eight c) (by
    intro a
    match a with
    | ⟨0, _⟩ => rfl
    | ⟨1, _⟩ => rfl
    | ⟨2, _⟩ => exact start_toInt c
    | ⟨3, _⟩ => rfl)]
  exact extractStridedSlice_apply _ _ _ _ _ (by
    intro a
    match a with
    | ⟨0, _⟩ => exact (Nat.zero_add _).symm
    | ⟨1, _⟩ => exact (Nat.zero_add _).symm
    | ⟨2, _⟩ => rfl
    | ⟨3, _⟩ => exact (Nat.zero_add _).symm)

/-! ## The sum over the devices -/

/-- The arrays as the devices hold them: `x` and the caches whole, the two matrices cut in eight. -/
structure Dealt (x : SX.Idx → EReal) (wq : SQ.Idx → EReal) (wo : SO.Idx → EReal) (K V : SK.Idx → EReal) : Prop where
  x : ∀ c : Dev nD, m ((c : Thread nD τ).loc main_arg0) = x
  wq : ∀ c : Dev nD, m ((c : Thread nD τ).loc main_arg1) = Layout.block ⟨2, ![512, 512]⟩ ⟨2, ![512, 4096]⟩ 1 8 c wq
  wo : ∀ c : Dev nD, m ((c : Thread nD τ).loc main_arg2) = Layout.block ⟨2, ![512, 512]⟩ ⟨2, ![4096, 512]⟩ 0 8 c wo
  K : ∀ c : Dev nD, m ((c : Thread nD τ).loc main_arg3) = K
  V : ∀ c : Dev nD, m ((c : Thread nD τ).loc main_arg4) = V

variable {m} {x : SX.Idx → EReal} {wq : SQ.Idx → EReal} {wo : SO.Idx → EReal} {K V : SK.Idx → EReal}

/-- Column `512 c + e`. -/
def wide (c : Fin 8) (e : Fin 512) : Fin 4096 := ⟨512 * c.val + e.val, by have := c.isLt; have := e.isLt; omega⟩

theorem wq_apply (c : Fin 8) (k e : Fin 512) :
    (Layout.block ⟨2, ![512, 512]⟩ ⟨2, ![512, 4096]⟩ 1 8 c wq) (ix2 k e) = wq (ix2 k (wide c e)) := by
  refine congrArg wq (funext fun a => Fin.ext ?_)
  match a with
  | ⟨0, _⟩ => rfl
  | ⟨1, _⟩ =>
    show c.val * 512 + e.val = 512 * c.val + e.val
    omega

theorem wo_apply (c : Fin 8) (e d : Fin 512) :
    (Layout.block ⟨2, ![512, 512]⟩ ⟨2, ![4096, 512]⟩ 0 8 c wo) (ix2 e d) = wo (ix2 (wide c e) d) := by
  refine congrArg wo (funext fun a => Fin.ext ?_)
  match a with
  | ⟨0, _⟩ =>
    show c.val * 512 + e.val = 512 * c.val + e.val
    omega
  | ⟨1, _⟩ => rfl

/-- A device's partial product: the attention's columns that are its own, times its rows of the output matrix. -/
theorem partial_of (D : Dealt m x wq wo K V) (c : Fin 8) (b : Fin 2) (i : Fin 128) (d : Fin 512) :
    Sbuf (V1 (F := Ideal) m) c (ix2 (row b i) d)
      = ∑ e : Fin 512, mixed x wq K V b i (hd (wide c e)) (pl (wide c e)) * wo (ix2 (wide c e) d) := by
  unfold Sbuf
  rw [keys_run, values_run, V1_of m c main_arg0 (by decide), V1_of m c main_arg1 (by decide), V1_of m c main_arg2 (by decide)]
  refine (partial_apply _ _ _ _ _ _ _).trans (Finset.sum_congr rfl fun e _ => congrArg₂ (· * ·) ?_ ?_)
  · have he := e.isLt; have hc := c.isLt
    obtain ⟨h, u, rfl⟩ : ∃ (h : Fin 8) (u : Fin 64), e = lane h u :=
      ⟨⟨e.val / 64, by omega⟩, ⟨e.val % 64, by omega⟩, Fin.ext (by show e.val = 64 * (e.val / 64) + e.val % 64; omega)⟩
    have hu := u.isLt; have hh := h.isLt
    have h1 : hd (wide c (lane h u)) = far c h := Fin.ext (by
      show (512 * c.val + (64 * h.val + u.val)) / 64 = 8 * c.val + h.val
      omega)
    have h2 : pl (wide c (lane h u)) = u := Fin.ext (by
      show (512 * c.val + (64 * h.val + u.val)) % 64 = u.val
      omega)
    rw [h1, h2]
    refine (bothOf_apply _ _ _ b i h u).trans ?_
    unfold mixed
    congr 1
    · funext t
      refine (queries_apply _ _ b i (lane h t)).trans (Finset.sum_congr rfl fun k _ => congrArg₂ (· * ·) (congrFun (D.x c) _) ?_)
      refine (congrFun (D.wq c) _).trans ((wq_apply c k _).trans (congrArg (fun y => wq (ix2 k y)) (Fin.ext ?_)))
      show 512 * c.val + (64 * h.val + t.val) = 64 * (8 * c.val + h.val) + t.val
      omega
    · funext j t
      exact (slab_eight c _ b h j t).trans (congrFun (D.K c) _)
    · funext j t
      exact (slab_eight c _ b h j t).trans (congrFun (D.V c) _)
  · exact (congrFun (D.wo c) _).trans (wo_apply c e d)

/-- The kernel's result is the attention's. -/
theorem value (D : Dealt m x wq wo K V) (b : Fin 2) (i : Fin 128) (d : Fin 512) :
    Out (V1 (F := Ideal) m) (ix3 b i d) = result x wq wo K V (ix3 b i d) := by
  have hb := b.isLt; have hi := i.isLt
  let a : Fin 8 := ⟨(128 * b.val + i.val) / 32, by omega⟩
  let t : Fin 32 := ⟨(128 * b.val + i.val) % 32, by omega⟩
  unfold Out
  refine (shapeCast_apply (s := S8x32x512) (t := S2x128x512) (Abuf (V1 (F := Ideal) m)) shapeCasts_S8x32x512_S2x128x512 (ix3 b i d) (ix3 a t d) ?_).trans ?_
  · rw [Shape.rowMajor_val_three, Shape.rowMajor_val_three]
    show ((128 * b.val + i.val) / 32 * 32 + (128 * b.val + i.val) % 32) * 512 + d.val = (b.val * 128 + i.val) * 512 + d.val
    omega
  refine (shapeCast_apply (s := S32x512) (t := S1x32x512)
    (multiReduction (F := Ideal) (φ := .f32) .add [0] S32x512 (Rbuf (V1 (F := Ideal) m) a) 0x00000000#32 reduces_S8x32x512_S32x512 (.inl rfl) rfl)
    shapeCasts_S32x512_S1x32x512 (ix3 (0 : Fin 1) t d) (ix2 t d) ?_).trans ?_
  · rw [Shape.rowMajor_val_three, Shape.rowMajor_val_two]
    show t.val * 512 + d.val = (0 * 32 + t.val) * 512 + d.val
    omega
  refine (Ideal.multiReduction_add_single _ _ _ _ _ _).trans ?_
  refine Eq.trans ?_ (sum_columns fun c => mixed x wq K V b i (hd c) (pl c) * wo (ix2 c d)).symm
  refine Finset.sum_congr rfl fun s _ => Eq.trans ?_ (partial_of D s b i d)
  refine congrArg (Sbuf (V1 (F := Ideal) m) s) (funext fun y => Fin.ext ?_)
  match y with
  | ⟨0, _⟩ =>
    show 32 * ((128 * b.val + i.val) / 32) + (128 * b.val + i.val) % 32 = 128 * b.val + i.val
    omega
  | ⟨1, _⟩ => rfl

end Cert.KernelIdeal.Meaning

end
-- ==== Proof.ReferenceIdeal.Value.lean ====
/-
# What the reference leaves, by coordinates
-/
module

public import proofs.«01_k».proof.Proof.Gen.ReferenceIdeal.Run
public import proofs.«01_k».proof.Proof.Attn
public import Idealize.ShloMosaic.Lib.KernelVsHost
public import Idealize.ShloMosaic.Lib.StackMember

@[expose] public section

noncomputable section

namespace Cert.ReferenceIdeal.Meaning

open Cert.ReferenceIdeal Cert.ReferenceIdeal.Gen Cert.Attn
open Idealize.ShloMosaic Idealize.ShloMosaic.ValueIdx
open scoped BigOperators

/-! ## The two batched products -/

theorem score_apply (Q K : FVec Ideal S2x128x64x64 .f32) (b : Fin 2) (h : Fin 64) (i j : Fin 128) :
    Host.dotGeneral dot_S2x128x64x64_S2x128x64x64_S2x64x128x128_3_3_1_1_02_02 none Q K (ix4 b h i j)
      = ∑ e : Fin 64, Q (ix4 b i h e) * K (ix4 b j h e) := by
  show FloatOps.dotGeneral _ none _ Q K (ix4 b h i j) = _
  rw [Ideal.dotGeneral_apply, ← Equiv.sum_comp (contrEquiv1 dot_S2x128x64x64_S2x128x64x64_S2x64x128x128_3_3_1_1_02_02 64 rfl rfl).symm]
  refine Finset.sum_congr rfl fun e _ => ?_
  have he := contrEquiv1_symm_val dot_S2x128x64x64_S2x128x64x64_S2x64x128x128_3_3_1_1_02_02 64 rfl rfl e
  refine congrArg₂ (· * ·) (congrArg Q (funext fun a => Fin.ext ?_)) (congrArg K (funext fun a => Fin.ext ?_))
  · match a with
    | ⟨0, _⟩ => rfl
    | ⟨1, _⟩ => rfl
    | ⟨2, _⟩ => rfl
    | ⟨3, _⟩ => exact he
  · match a with
    | ⟨0, _⟩ => rfl
    | ⟨1, _⟩ => rfl
    | ⟨2, _⟩ => rfl
    | ⟨3, _⟩ => exact he

theorem mix_apply (V : FVec Ideal S2x128x64x64 .f32) (W : FVec Ideal S2x64x128x128 .f32) (b : Fin 2) (h d : Fin 64) (i : Fin 128) :
    Host.dotGeneral dot_S2x128x64x64_S2x64x128x128_S2x64x64x128_1_3_3_2_02_01 none V W (ix4 b h d i)
      = ∑ j : Fin 128, V (ix4 b j h d) * W (ix4 b h i j) := by
  show FloatOps.dotGeneral _ none _ V W (ix4 b h d i) = _
  rw [Ideal.dotGeneral_apply, ← Equiv.sum_comp (contrEquiv1 dot_S2x128x64x64_S2x64x128x128_S2x64x64x128_1_3_3_2_02_01 128 rfl rfl).symm]
  refine Finset.sum_congr rfl fun e _ => ?_
  have he := contrEquiv1_symm_val dot_S2x128x64x64_S2x64x128x128_S2x64x64x128_1_3_3_2_02_01 128 rfl rfl e
  refine congrArg₂ (· * ·) (congrArg V (funext fun a => Fin.ext ?_)) (congrArg W (funext fun a => Fin.ext ?_))
  · match a with
    | ⟨0, _⟩ => rfl
    | ⟨1, _⟩ => exact he
    | ⟨2, _⟩ => rfl
    | ⟨3, _⟩ => rfl
  · match a with
    | ⟨0, _⟩ => rfl
    | ⟨1, _⟩ => rfl
    | ⟨2, _⟩ => rfl
    | ⟨3, _⟩ => exact he

/-! ## A row's maximum and its sum -/

theorem reduces_last : S2x64x128x128.Reduces [3] S2x64x128 := by decide

theorem top_apply (s : FVec Ideal S2x64x128x128 .f32) (b : Fin 2) (h : Fin 64) (i : Fin 128) :
    Host.reduce FloatOps.maximumf s (constant S_ .f32 0xFF800000#32) reducesTo_S2x64x128x128_S2x64x128_d3 h_S_ (ix3 b h i)
      = top fun j => s (ix4 b h i j) := by
  refine (congrFun (hostReduce_maximumf_eq_multiReduction s 0xFF800000#32 reducesTo_S2x64x128x128_S2x64x128_d3 h_S_ reduces_last
    (.inl rfl) rfl) _).trans ((Ideal.multiReduction_maximumf_single _ _ _ _ _ _).trans ?_)
  refine congrArg (fun f => Finset.fold max _ f (Finset.univ : Finset (Fin 128))) (funext fun j => ?_)
  refine congrArg s (funext fun a => Fin.ext ?_)
  match a with
  | ⟨0, _⟩ => rfl
  | ⟨1, _⟩ => rfl
  | ⟨2, _⟩ => rfl
  | ⟨3, _⟩ => rfl

theorem sum_apply (s : FVec Ideal S2x64x128x128 .f32) (b : Fin 2) (h : Fin 64) (i : Fin 128) :
    Host.reduceAdd s (constant S_ .f32 0x00000000#32) reducesTo_S2x64x128x128_S2x64x128_d3 h_S_ (ix3 b h i)
      = ∑ j : Fin 128, s (ix4 b h i j) := by
  show Ideal.hostReduceAdd _ s _ _ = _
  rw [Ideal.hostReduceAdd_single _ reduces_last]
  show Ideal.ofBits .f32 0x00000000#32 + _ = _
  rw [Ideal.ofBits_zero_f32, zero_add]
  refine Finset.sum_congr rfl fun j _ => congrArg s (funext fun a => Fin.ext ?_)
  match a with
  | ⟨0, _⟩ => rfl
  | ⟨1, _⟩ => rfl
  | ⟨2, _⟩ => rfl
  | ⟨3, _⟩ => rfl

/-- A row's number laid along the row. -/
theorem along_apply (r : FVec Ideal S2x64x128 .f32) (b : Fin 2) (h : Fin 64) (i j : Fin 128) :
    broadcastInDim S2x64x128x128 ![0, 1, 2, 3] bcast_S2x64x128x1_S2x64x128x128_0_1_2_3
      (broadcastInDim S2x64x128x1 ![0, 1, 2] bcast_S2x64x128_S2x64x128x1_0_1_2 r) (ix4 b h i j) = r (ix3 b h i) := by
  rw [broadcastInDim_apply _ _ _ _ (ix4 b h i (0 : Fin 1)) (by
    intro a
    match a with
    | ⟨0, _⟩ => rfl
    | ⟨1, _⟩ => rfl
    | ⟨2, _⟩ => rfl
    | ⟨3, _⟩ => rfl)]
  exact broadcastInDim_apply _ _ _ _ (ix3 b h i) (by
    intro a
    match a with
    | ⟨0, _⟩ => rfl
    | ⟨1, _⟩ => rfl
    | ⟨2, _⟩ => rfl)

/-! ## The reference, in three steps -/

/-- The queries: 64 heads of 64 numbers. -/
abbrev queries (x : FVec Ideal S2x128x512 .f32) (wq : FVec Ideal S512x4096 .f32) : FVec Ideal S2x128x64x64 .f32 :=
  shapeCast _ (Host.dotGeneral dot_S256x512_S512x4096_S256x4096_1_0_0_1_n_n none
    (shapeCast S256x512 x shapeCasts_S2x128x512_S256x512) wq) shapeCasts_S256x4096_S2x128x64x64

theorem queries_apply (x : FVec Ideal S2x128x512 .f32) (wq : FVec Ideal S512x4096 .f32) (b : Fin 2) (i : Fin 128) (h e : Fin 64) :
    queries x wq (ix4 b i h e) = query x wq b i h e := by
  have hb := b.isLt; have hi := i.isLt; have hh := h.isLt; have he := e.isLt
  rw [queries, shapeCast_apply _ _ _ (ix2 (⟨128 * b.val + i.val, by omega⟩ : Fin 256) (col h e)) (by
    rw [Shape.rowMajor_val_two, Shape.rowMajor_val_four]
    show (128 * b.val + i.val) * 4096 + (64 * h.val + e.val) = ((b.val * 128 + i.val) * 64 + h.val) * 64 + e.val
    omega)]
  refine (StackMember.dotGeneral_plain_apply none _ _ _ _).trans (Finset.sum_congr rfl fun k _ => congrArg (· * _) ?_)
  exact shapeCast_apply _ _ _ (ix3 b i k) (by
    rw [Shape.rowMajor_val_two, Shape.rowMajor_val_three]
    show (b.val * 128 + i.val) * 512 + k.val = (128 * b.val + i.val) * 512 + k.val
    omega)

/-- The scaled scores. -/
abbrev scaled (Q K : FVec Ideal S2x128x64x64 .f32) : FVec Ideal S2x64x128x128 .f32 :=
  mulf (Host.dotGeneral dot_S2x128x64x64_S2x128x64x64_S2x64x128x128_3_3_1_1_02_02 none Q K)
    (broadcastInDim S2x64x128x128 ![] bcast_S_S2x64x128x128 (constant S_ .f32 0x3E000000#32))

/-- The exponentials of a row's scores, less their largest. -/
abbrev raised (s : FVec Ideal S2x64x128x128 .f32) : FVec Ideal S2x64x128x128 .f32 :=
  Host.exp (subf s (broadcastInDim S2x64x128x128 ![0, 1, 2, 3] bcast_S2x64x128x1_S2x64x128x128_0_1_2_3
    (broadcastInDim S2x64x128x1 ![0, 1, 2] bcast_S2x64x128_S2x64x128x1_0_1_2
      (Host.reduce FloatOps.maximumf s (constant S_ .f32 0xFF800000#32) reducesTo_S2x64x128x128_S2x64x128_d3 h_S_))))

/-- The softmax. -/
abbrev weighed (s : FVec Ideal S2x64x128x128 .f32) : FVec Ideal S2x64x128x128 .f32 :=
  Host.divf (raised s) (broadcastInDim S2x64x128x128 ![0, 1, 2, 3] bcast_S2x64x128x1_S2x64x128x128_0_1_2_3
    (broadcastInDim S2x64x128x1 ![0, 1, 2] bcast_S2x64x128_S2x64x128x1_0_1_2
      (Host.reduceAdd (raised s) (constant S_ .f32 0x00000000#32) reducesTo_S2x64x128x128_S2x64x128_d3 h_S_)))

theorem raised_apply (s : FVec Ideal S2x64x128x128 .f32) (b : Fin 2) (h : Fin 64) (i j : Fin 128) :
    raised s (ix4 b h i j) = Ideal.exp (s (ix4 b h i j) - top fun t => s (ix4 b h i t)) := by
  refine congrArg (fun t => Ideal.exp (s (ix4 b h i j) - t)) ?_
  rw [along_apply, top_apply]

theorem weighed_apply (s : FVec Ideal S2x64x128x128 .f32) (b : Fin 2) (h : Fin 64) (i j : Fin 128) :
    weighed s (ix4 b h i j) = weight (fun t => s (ix4 b h i t)) j := by
  refine congrArg₂ Ideal.div (raised_apply s b h i j) ?_
  rw [along_apply, sum_apply]
  exact Finset.sum_congr rfl fun t _ => raised_apply s b h i t

theorem scaled_apply (Q K : FVec Ideal S2x128x64x64 .f32) (b : Fin 2) (h : Fin 64) (i j : Fin 128) :
    scaled Q K (ix4 b h i j) = scores (fun e => Q (ix4 b i h e)) (fun j e => K (ix4 b j h e)) j := by
  refine congrArg₂ (· * ·) (score_apply Q K b h i j) ?_
  exact broadcastInDim_scalar_apply _ _ _

/-- The reference's composed term is the attention by coordinates. -/
theorem value (x : FVec Ideal S2x128x512 .f32) (wq : FVec Ideal S512x4096 .f32) (wo : FVec Ideal S4096x512 .f32)
    (K V : FVec Ideal S2x128x64x64 .f32) (b : Fin 2) (i : Fin 128) (d : Fin 512) :
    shapeCast S2x128x512 (Host.dotGeneral dot_S256x4096_S4096x512_S256x512_1_0_0_1_n_n none
      (shapeCast S256x4096 (transpose S2x128x64x64 [0, 3, 1, 2]
        (Host.dotGeneral dot_S2x128x64x64_S2x64x128x128_S2x64x64x128_1_3_3_2_02_01 none V (weighed (scaled (queries x wq) K)))
        transposes_S2x64x64x128_S2x128x64x64_0_3_1_2) shapeCasts_S2x128x64x64_S256x4096) wo) shapeCasts_S256x512_S2x128x512 (ix3 b i d)
      = result x wq wo K V (ix3 b i d) := by
  have hb := b.isLt; have hi := i.isLt
  rw [shapeCast_apply _ _ _ (ix2 (⟨128 * b.val + i.val, by omega⟩ : Fin 256) d) (by
    rw [Shape.rowMajor_val_two, Shape.rowMajor_val_three]
    show (128 * b.val + i.val) * 512 + d.val = (b.val * 128 + i.val) * 512 + d.val
    omega)]
  refine (StackMember.dotGeneral_plain_apply none _ _ _ _).trans (Finset.sum_congr rfl fun c _ => congrArg (· * _) ?_)
  rw [shapeCast_apply _ _ _ (ix4 b i (hd c) (pl c)) (by
    rw [Shape.rowMajor_val_two, Shape.rowMajor_val_four]
    show ((b.val * 128 + i.val) * 64 + c.val / 64) * 64 + c.val % 64 = (128 * b.val + i.val) * 4096 + c.val
    omega)]
  rw [transpose_apply _ _ _ _ (ix4 b (hd c) (pl c) i) (by
    intro a
    match a with
    | ⟨0, _⟩ => rfl
    | ⟨1, _⟩ => rfl
    | ⟨2, _⟩ => rfl
    | ⟨3, _⟩ => rfl), mix_apply]
  refine Finset.sum_congr rfl fun j _ => (mul_comm _ _).trans (congrArg (· * _) ?_)
  rw [weighed_apply]
  refine congrArg (fun s => weight s j) (funext fun t => (scaled_apply _ _ _ _ _ _).trans ?_)
  exact congrArg (fun q => scores q _ t) (funext fun e => queries_apply x wq b i (hd c) e)

end Cert.ReferenceIdeal.Meaning

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Value
public import proofs.«01_k».proof.Proof.ReferenceIdeal.Value
public import Idealize.ShloMosaic.Adequacy
public import Idealize.ShloMosaic.Init

@[expose] public section

noncomputable section

namespace Cert.Proof

open Idealize.ShloMosaic Idealize.ShloMosaic.ValueIdx Idealize.SL.Sem

/-- The kernel's frame: its run, read at the arguments and the counters. -/
theorem frame_kernel : Cert.quiescent_Kernel := fun m ρ _ =>
  (θ_run Cert.Kernel.defs _ _).mono (fun _ h => ⟨fun c => (h.1 c).2, h.2⟩) (Cert.Kernel.Run.run_main (F := Bits) m ρ)

/-- The same over the extended reals. -/
theorem frame_ideal : Cert.quiescent_KernelIdeal := fun m ρ _ =>
  (θ_run Cert.KernelIdeal.defs _ _).mono (fun _ h => ⟨fun c => (h.1 c).2, h.2⟩) (Cert.KernelIdeal.Run.run_main (F := Ideal) m ρ)

/-- The reference is a straight line of operations and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The arrays the devices hold, as the claim deals them. -/
theorem dealt {m : (b : Loc Cert.KernelIdeal.nD Cert.KernelIdeal.τ Cert.KernelIdeal.sig) → Buf (Elt Ideal) b}
    {x : Cert.Attn.SX.Idx → EReal} {wq : Cert.Attn.SQ.Idx → EReal} {wo : Cert.Attn.SO.Idx → EReal} {K V : Cert.Attn.SK.Idx → EReal}
    (h : ∀ c : Dev Cert.KernelIdeal.nD,
      m ((c.tc : Thread Cert.KernelIdeal.nD Cert.KernelIdeal.τ).loc Cert.KernelIdeal.main_arg0) = x
      ∧ m ((c.tc : Thread Cert.KernelIdeal.nD Cert.KernelIdeal.τ).loc Cert.KernelIdeal.main_arg1) = Layout.block ⟨2, ![512, 512]⟩ ⟨2, ![512, 4096]⟩ 1 8 c wq
      ∧ m ((c.tc : Thread Cert.KernelIdeal.nD Cert.KernelIdeal.τ).loc Cert.KernelIdeal.main_arg2) = Layout.block ⟨2, ![512, 512]⟩ ⟨2, ![4096, 512]⟩ 0 8 c wo
      ∧ m ((c.tc : Thread Cert.KernelIdeal.nD Cert.KernelIdeal.τ).loc Cert.KernelIdeal.main_arg3) = K
      ∧ m ((c.tc : Thread Cert.KernelIdeal.nD Cert.KernelIdeal.τ).loc Cert.KernelIdeal.main_arg4) = V) :
    Cert.KernelIdeal.Meaning.Dealt m x wq wo K V :=
  ⟨fun c => (h c).1, fun c => (h c).2.1, fun c => (h c).2.2.1, fun c => (h c).2.2.2.1, fun c => (h c).2.2.2.2⟩

/-- Over the extended reals the kernel and the reference leave one result, the attention's. -/
theorem algebraic : Cert.algebraic_KernelIdeal_ReferenceIdeal := fun m ρ m' ρ' _ h =>
  ⟨Cert.Attn.result _ _ _ _ _,
    (θ_run Cert.KernelIdeal.defs _ _).mono (fun _ r c => ⟨(r.1 c).1.trans (funext fun o => by
      obtain ⟨b, i, d, rfl⟩ : ∃ b i d, o = ix3 b i d := ⟨_, _, _, eq_ix3 o⟩
      exact Cert.KernelIdeal.Meaning.value (dealt h) b i d), (r.1 c).2⟩) (Cert.KernelIdeal.Run.run_main (F := Ideal) m ρ),
    (θ_run Cert.ReferenceIdeal.defs _ _).mono (fun _ r => ⟨(r 0).1.trans (funext fun o => by
      obtain ⟨b, i, d, rfl⟩ : ∃ b i d, o = ix3 b i d := ⟨_, _, _, eq_ix3 o⟩
      exact Cert.ReferenceIdeal.Meaning.value _ _ _ _ _ b i d), (r 0).2⟩) (Cert.ReferenceIdeal.Value.run (F := Ideal) m' ρ')⟩

theorem claim : Cert.Claim :=
  ⟨Cert.Kernel.Gen.facts, Cert.KernelIdeal.Gen.facts, Cert.ReferenceIdeal.Gen.facts, frame_kernel, frame_ideal, frame_reference, trivial, algebraic⟩

end Cert.Proof

end
